-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x2048 : Shape := ⟨2, ![4096, 2048]⟩
abbrev S4096x64 : Shape := ⟨2, ![4096, 64]⟩
abbrev S32x128x64 : Shape := ⟨3, ![32, 128, 64]⟩
abbrev S8x128 : Shape := ⟨2, ![8, 128]⟩
abbrev S32x8x128 : Shape := ⟨3, ![32, 8, 128]⟩
abbrev S32 : Shape := ⟨1, ![32]⟩
abbrev S128x2048 : Shape := ⟨2, ![128, 2048]⟩
abbrev S128x512 : Shape := ⟨2, ![128, 512]⟩
abbrev S512x2048 : Shape := ⟨2, ![512, 2048]⟩
abbrev S1x128x2048 : Shape := ⟨3, ![1, 128, 2048]⟩
abbrev S1 : Shape := ⟨1, ![1]⟩
abbrev S1x1x1 : Shape := ⟨3, ![1, 1, 1]⟩
abbrev S128x64 : Shape := ⟨2, ![128, 64]⟩
abbrev S1x128x64 : Shape := ⟨3, ![1, 128, 64]⟩
abbrev S1x8x128 : Shape := ⟨3, ![1, 8, 128]⟩
abbrev S_ : Shape := ⟨0, ![]⟩
abbrev S1x32x8x128 : Shape := ⟨4, ![1, 32, 8, 128]⟩
abbrev S1x1x1x1 : Shape := ⟨4, ![1, 1, 1, 1]⟩

abbrev nBuf : Space → Nat
  | .hbm => 3
  | .vmem => 7
  | .smem => 0
  | _ => 0

abbrev bufTy : (tb : Table) → Fin (tcTables nBuf tb) → BufTy
  | .hbm, ⟨0, _⟩ => ⟨S128x4096, .bf16⟩
  | .hbm, ⟨1, _⟩ => ⟨S4096x2048, .bf16⟩
  | .hbm, ⟨2, _⟩ => ⟨S4096x64, .f32⟩
  | .local _ .vmem, ⟨0, _⟩ => ⟨S128x4096, .bf16⟩
  | .local _ .vmem, ⟨1, _⟩ => ⟨S4096x2048, .bf16⟩
  | .local _ .vmem, ⟨2, _⟩ => ⟨S4096x64, .f32⟩
  | .local _ .vmem, ⟨3, _⟩ => ⟨S32x128x64, .bf16⟩
  | .local _ .vmem, ⟨4, _⟩ => ⟨S32x128x64, .bf16⟩
  | .local _ .vmem, ⟨5, _⟩ => ⟨S8x128, .f32⟩
  | .local _ .vmem, ⟨6, _⟩ => ⟨S32x8x128, .f32⟩
  | _, _ => ⟨S128x4096, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v216 : Index := Scalar.indexCast v2
  let c0_87 : Index := 0#32
  let c0_88 : Index := 0#32
  ![v216.toNat, 0, 0]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v223 : Index := Scalar.indexCast v2
  let c0_91 : Index := 0#32
  let c0_92 : Index := 0#32
  ![v223.toNat, 0, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_93 : BitVec 32 := 1#32
  let v228 : BitVec 32 := Scalar.addi v2 c1_i32_93
  let c32_i32_94 : BitVec 32 := 32#32
  let v229 : BitVec 32 := Scalar.remsi v228 c32_i32_94
  let c1_i32_96 : BitVec 32 := 1#32
  let v230 : BitVec 32 := Scalar.muli v229 c1_i32_96
  let v231 : BitVec 32 := Scalar.addi c0_i32 v230
  v231.toNat
def k0_dev2 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v232 : BitVec 32 := Scalar.addi v2 c2_i32
  let c32_i32_97 : BitVec 32 := 32#32
  let v233 : BitVec 32 := Scalar.remsi v232 c32_i32_97
  let c1_i32_99 : BitVec 32 := 1#32
  let v234 : BitVec 32 := Scalar.muli v233 c1_i32_99
  let v235 : BitVec 32 := Scalar.addi c0_i32_100 v234
  v235.toNat
def k0_dev3 (d0 : Dev nD) : Nat :=
  let c0_i32_104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v236 : BitVec 32 := Scalar.addi v2 c3_i32
  let c32_i32_101 : BitVec 32 := 32#32
  let v237 : BitVec 32 := Scalar.remsi v236 c32_i32_101
  let c1_i32_103 : BitVec 32 := 1#32
  let v238 : BitVec 32 := Scalar.muli v237 c1_i32_103
  let v239 : BitVec 32 := Scalar.addi c0_i32_104 v238
  v239.toNat
def k0_dev4 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v240 : BitVec 32 := Scalar.addi v2 c4_i32
  let c32_i32_105 : BitVec 32 := 32#32
  let v241 : BitVec 32 := Scalar.remsi v240 c32_i32_105
  let c1_i32_107 : BitVec 32 := 1#32
  let v242 : BitVec 32 := Scalar.muli v241 c1_i32_107
  let v243 : BitVec 32 := Scalar.addi c0_i32_108 v242
  v243.toNat
def k0_dev5 (d0 : Dev nD) : Nat :=
  let c0_i32_112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v244 : BitVec 32 := Scalar.addi v2 c5_i32
  let c32_i32_109 : BitVec 32 := 32#32
  let v245 : BitVec 32 := Scalar.remsi v244 c32_i32_109
  let c1_i32_111 : BitVec 32 := 1#32
  let v246 : BitVec 32 := Scalar.muli v245 c1_i32_111
  let v247 : BitVec 32 := Scalar.addi c0_i32_112 v246
  v247.toNat
def k0_dev6 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v248 : BitVec 32 := Scalar.addi v2 c6_i32
  let c32_i32_113 : BitVec 32 := 32#32
  let v249 : BitVec 32 := Scalar.remsi v248 c32_i32_113
  let c1_i32_115 : BitVec 32 := 1#32
  let v250 : BitVec 32 := Scalar.muli v249 c1_i32_115
  let v251 : BitVec 32 := Scalar.addi c0_i32_116 v250
  v251.toNat
def k0_dev7 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v252 : BitVec 32 := Scalar.addi v2 c7_i32
  let c32_i32_117 : BitVec 32 := 32#32
  let v253 : BitVec 32 := Scalar.remsi v252 c32_i32_117
  let c1_i32_119 : BitVec 32 := 1#32
  let v254 : BitVec 32 := Scalar.muli v253 c1_i32_119
  let v255 : BitVec 32 := Scalar.addi c0_i32_120 v254
  v255.toNat
def k0_dev8 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v256 : BitVec 32 := Scalar.addi v2 c8_i32
  let c32_i32_121 : BitVec 32 := 32#32
  let v257 : BitVec 32 := Scalar.remsi v256 c32_i32_121
  let c1_i32_123 : BitVec 32 := 1#32
  let v258 : BitVec 32 := Scalar.muli v257 c1_i32_123
  let v259 : BitVec 32 := Scalar.addi c0_i32_124 v258
  v259.toNat
def k0_dev9 (d0 : Dev nD) : Nat :=
  let c0_i32_128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v260 : BitVec 32 := Scalar.addi v2 c9_i32
  let c32_i32_125 : BitVec 32 := 32#32
  let v261 : BitVec 32 := Scalar.remsi v260 c32_i32_125
  let c1_i32_127 : BitVec 32 := 1#32
  let v262 : BitVec 32 := Scalar.muli v261 c1_i32_127
  let v263 : BitVec 32 := Scalar.addi c0_i32_128 v262
  v263.toNat
def k0_dev10 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v264 : BitVec 32 := Scalar.addi v2 c10_i32
  let c32_i32_129 : BitVec 32 := 32#32
  let v265 : BitVec 32 := Scalar.remsi v264 c32_i32_129
  let c1_i32_131 : BitVec 32 := 1#32
  let v266 : BitVec 32 := Scalar.muli v265 c1_i32_131
  let v267 : BitVec 32 := Scalar.addi c0_i32_132 v266
  v267.toNat
def k0_dev11 (d0 : Dev nD) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v268 : BitVec 32 := Scalar.addi v2 c11_i32
  let c32_i32_133 : BitVec 32 := 32#32
  let v269 : BitVec 32 := Scalar.remsi v268 c32_i32_133
  let c1_i32_135 : BitVec 32 := 1#32
  let v270 : BitVec 32 := Scalar.muli v269 c1_i32_135
  let v271 : BitVec 32 := Scalar.addi c0_i32_136 v270
  v271.toNat
def k0_dev12 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v272 : BitVec 32 := Scalar.addi v2 c12_i32
  let c32_i32_137 : BitVec 32 := 32#32
  let v273 : BitVec 32 := Scalar.remsi v272 c32_i32_137
  let c1_i32_139 : BitVec 32 := 1#32
  let v274 : BitVec 32 := Scalar.muli v273 c1_i32_139
  let v275 : BitVec 32 := Scalar.addi c0_i32_140 v274
  v275.toNat
def k0_dev13 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v276 : BitVec 32 := Scalar.addi v2 c13_i32
  let c32_i32_141 : BitVec 32 := 32#32
  let v277 : BitVec 32 := Scalar.remsi v276 c32_i32_141
  let c1_i32_143 : BitVec 32 := 1#32
  let v278 : BitVec 32 := Scalar.muli v277 c1_i32_143
  let v279 : BitVec 32 := Scalar.addi c0_i32_144 v278
  v279.toNat
def k0_dev14 (d0 : Dev nD) : Nat :=
  let c0_i32_148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v280 : BitVec 32 := Scalar.addi v2 c14_i32
  let c32_i32_145 : BitVec 32 := 32#32
  let v281 : BitVec 32 := Scalar.remsi v280 c32_i32_145
  let c1_i32_147 : BitVec 32 := 1#32
  let v282 : BitVec 32 := Scalar.muli v281 c1_i32_147
  let v283 : BitVec 32 := Scalar.addi c0_i32_148 v282
  v283.toNat
def k0_dev15 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v284 : BitVec 32 := Scalar.addi v2 c15_i32
  let c32_i32_149 : BitVec 32 := 32#32
  let v285 : BitVec 32 := Scalar.remsi v284 c32_i32_149
  let c1_i32_151 : BitVec 32 := 1#32
  let v286 : BitVec 32 := Scalar.muli v285 c1_i32_151
  let v287 : BitVec 32 := Scalar.addi c0_i32_152 v286
  v287.toNat
def k0_dev16 (d0 : Dev nD) : Nat :=
  let c0_i32_156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v288 : BitVec 32 := Scalar.addi v2 c16_i32
  let c32_i32_153 : BitVec 32 := 32#32
  let v289 : BitVec 32 := Scalar.remsi v288 c32_i32_153
  let c1_i32_155 : BitVec 32 := 1#32
  let v290 : BitVec 32 := Scalar.muli v289 c1_i32_155
  let v291 : BitVec 32 := Scalar.addi c0_i32_156 v290
  v291.toNat
def k0_dev17 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v292 : BitVec 32 := Scalar.addi v2 c17_i32
  let c32_i32_157 : BitVec 32 := 32#32
  let v293 : BitVec 32 := Scalar.remsi v292 c32_i32_157
  let c1_i32_159 : BitVec 32 := 1#32
  let v294 : BitVec 32 := Scalar.muli v293 c1_i32_159
  let v295 : BitVec 32 := Scalar.addi c0_i32_160 v294
  v295.toNat
def k0_dev18 (d0 : Dev nD) : Nat :=
  let c0_i32_164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v296 : BitVec 32 := Scalar.addi v2 c18_i32
  let c32_i32_161 : BitVec 32 := 32#32
  let v297 : BitVec 32 := Scalar.remsi v296 c32_i32_161
  let c1_i32_163 : BitVec 32 := 1#32
  let v298 : BitVec 32 := Scalar.muli v297 c1_i32_163
  let v299 : BitVec 32 := Scalar.addi c0_i32_164 v298
  v299.toNat
def k0_dev19 (d0 : Dev nD) : Nat :=
  let c0_i32_168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v300 : BitVec 32 := Scalar.addi v2 c19_i32
  let c32_i32_165 : BitVec 32 := 32#32
  let v301 : BitVec 32 := Scalar.remsi v300 c32_i32_165
  let c1_i32_167 : BitVec 32 := 1#32
  let v302 : BitVec 32 := Scalar.muli v301 c1_i32_167
  let v303 : BitVec 32 := Scalar.addi c0_i32_168 v302
  v303.toNat
def k0_dev20 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v304 : BitVec 32 := Scalar.addi v2 c20_i32
  let c32_i32_169 : BitVec 32 := 32#32
  let v305 : BitVec 32 := Scalar.remsi v304 c32_i32_169
  let c1_i32_171 : BitVec 32 := 1#32
  let v306 : BitVec 32 := Scalar.muli v305 c1_i32_171
  let v307 : BitVec 32 := Scalar.addi c0_i32_172 v306
  v307.toNat
def k0_dev21 (d0 : Dev nD) : Nat :=
  let c0_i32_176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v308 : BitVec 32 := Scalar.addi v2 c21_i32
  let c32_i32_173 : BitVec 32 := 32#32
  let v309 : BitVec 32 := Scalar.remsi v308 c32_i32_173
  let c1_i32_175 : BitVec 32 := 1#32
  let v310 : BitVec 32 := Scalar.muli v309 c1_i32_175
  let v311 : BitVec 32 := Scalar.addi c0_i32_176 v310
  v311.toNat
def k0_dev22 (d0 : Dev nD) : Nat :=
  let c0_i32_180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v312 : BitVec 32 := Scalar.addi v2 c22_i32
  let c32_i32_177 : BitVec 32 := 32#32
  let v313 : BitVec 32 := Scalar.remsi v312 c32_i32_177
  let c1_i32_179 : BitVec 32 := 1#32
  let v314 : BitVec 32 := Scalar.muli v313 c1_i32_179
  let v315 : BitVec 32 := Scalar.addi c0_i32_180 v314
  v315.toNat
def k0_dev23 (d0 : Dev nD) : Nat :=
  let c0_i32_184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v316 : BitVec 32 := Scalar.addi v2 c23_i32
  let c32_i32_181 : BitVec 32 := 32#32
  let v317 : BitVec 32 := Scalar.remsi v316 c32_i32_181
  let c1_i32_183 : BitVec 32 := 1#32
  let v318 : BitVec 32 := Scalar.muli v317 c1_i32_183
  let v319 : BitVec 32 := Scalar.addi c0_i32_184 v318
  v319.toNat
def k0_dev24 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v320 : BitVec 32 := Scalar.addi v2 c24_i32
  let c32_i32_185 : BitVec 32 := 32#32
  let v321 : BitVec 32 := Scalar.remsi v320 c32_i32_185
  let c1_i32_187 : BitVec 32 := 1#32
  let v322 : BitVec 32 := Scalar.muli v321 c1_i32_187
  let v323 : BitVec 32 := Scalar.addi c0_i32_188 v322
  v323.toNat
def k0_dev25 (d0 : Dev nD) : Nat :=
  let c0_i32_192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v324 : BitVec 32 := Scalar.addi v2 c25_i32
  let c32_i32_189 : BitVec 32 := 32#32
  let v325 : BitVec 32 := Scalar.remsi v324 c32_i32_189
  let c1_i32_191 : BitVec 32 := 1#32
  let v326 : BitVec 32 := Scalar.muli v325 c1_i32_191
  let v327 : BitVec 32 := Scalar.addi c0_i32_192 v326
  v327.toNat
def k0_dev26 (d0 : Dev nD) : Nat :=
  let c0_i32_196 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v328 : BitVec 32 := Scalar.addi v2 c26_i32
  let c32_i32_193 : BitVec 32 := 32#32
  let v329 : BitVec 32 := Scalar.remsi v328 c32_i32_193
  let c1_i32_195 : BitVec 32 := 1#32
  let v330 : BitVec 32 := Scalar.muli v329 c1_i32_195
  let v331 : BitVec 32 := Scalar.addi c0_i32_196 v330
  v331.toNat
def k0_dev27 (d0 : Dev nD) : Nat :=
  let c0_i32_200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v332 : BitVec 32 := Scalar.addi v2 c27_i32
  let c32_i32_197 : BitVec 32 := 32#32
  let v333 : BitVec 32 := Scalar.remsi v332 c32_i32_197
  let c1_i32_199 : BitVec 32 := 1#32
  let v334 : BitVec 32 := Scalar.muli v333 c1_i32_199
  let v335 : BitVec 32 := Scalar.addi c0_i32_200 v334
  v335.toNat
def k0_dev28 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v336 : BitVec 32 := Scalar.addi v2 c28_i32
  let c32_i32_201 : BitVec 32 := 32#32
  let v337 : BitVec 32 := Scalar.remsi v336 c32_i32_201
  let c1_i32_203 : BitVec 32 := 1#32
  let v338 : BitVec 32 := Scalar.muli v337 c1_i32_203
  let v339 : BitVec 32 := Scalar.addi c0_i32_204 v338
  v339.toNat
def k0_dev29 (d0 : Dev nD) : Nat :=
  let c0_i32_208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v340 : BitVec 32 := Scalar.addi v2 c29_i32
  let c32_i32_205 : BitVec 32 := 32#32
  let v341 : BitVec 32 := Scalar.remsi v340 c32_i32_205
  let c1_i32_207 : BitVec 32 := 1#32
  let v342 : BitVec 32 := Scalar.muli v341 c1_i32_207
  let v343 : BitVec 32 := Scalar.addi c0_i32_208 v342
  v343.toNat
def k0_dev30 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v344 : BitVec 32 := Scalar.addi v2 c30_i32
  let c32_i32_209 : BitVec 32 := 32#32
  let v345 : BitVec 32 := Scalar.remsi v344 c32_i32_209
  let c1_i32_211 : BitVec 32 := 1#32
  let v346 : BitVec 32 := Scalar.muli v345 c1_i32_211
  let v347 : BitVec 32 := Scalar.addi c0_i32_212 v346
  v347.toNat
def k0_dev31 (d0 : Dev nD) : Nat :=
  let c0_i32_216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v348 : BitVec 32 := Scalar.addi v2 c31_i32
  let c32_i32_213 : BitVec 32 := 32#32
  let v349 : BitVec 32 := Scalar.remsi v348 c32_i32_213
  let c1_i32_215 : BitVec 32 := 1#32
  let v350 : BitVec 32 := Scalar.muli v349 c1_i32_215
  let v351 : BitVec 32 := Scalar.addi c0_i32_216 v350
  v351.toNat
def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_223 : BitVec 32 := 0#32
  let c0_i32_224 : BitVec 32 := 0#32
  ![v2.toNat, 0, 0]
def k0_off5 (d0 : Dev nD) (c1_i32_218 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v352 : BitVec 32 := Scalar.addi v2 c1_i32_218
  let c32_i32_219 : BitVec 32 := 32#32
  let v353 : BitVec 32 := Scalar.remsi v352 c32_i32_219
  let c0_i32_225 : BitVec 32 := 0#32
  let c0_i32_226 : BitVec 32 := 0#32
  ![v353.toNat, 0, 0]
def k0_dev32 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_218 : BitVec 32 := 1#32
  let v352 : BitVec 32 := Scalar.addi v2 c1_i32_218
  let c32_i32_219 : BitVec 32 := 32#32
  let v353 : BitVec 32 := Scalar.remsi v352 c32_i32_219
  let c1_i32_221 : BitVec 32 := 1#32
  let v354 : BitVec 32 := Scalar.muli v353 c1_i32_221
  let v355 : BitVec 32 := Scalar.addi c0_i32_222 v354
  v355.toNat
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_230 : BitVec 32 := 0#32
  let c0_i32_231 : BitVec 32 := 0#32
  ![v2.toNat, 0, 0]
def k0_dev33 (d0 : Dev nD) : Nat :=
  let c0_i32_229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_218 : BitVec 32 := 1#32
  let v352 : BitVec 32 := Scalar.addi v2 c1_i32_218
  let c32_i32_219 : BitVec 32 := 32#32
  let v353 : BitVec 32 := Scalar.remsi v352 c32_i32_219
  let c1_i32_228 : BitVec 32 := 1#32
  let v364 : BitVec 32 := Scalar.muli v353 c1_i32_228
  let v365 : BitVec 32 := Scalar.addi c0_i32_229 v364
  v365.toNat
def k0_dev34 (d0 : Dev nD) : Nat :=
  let c0_i32_236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_232 : BitVec 32 := 2#32
  let v372 : BitVec 32 := Scalar.addi v2 c2_i32_232
  let c32_i32_233 : BitVec 32 := 32#32
  let v373 : BitVec 32 := Scalar.remsi v372 c32_i32_233
  let c1_i32_235 : BitVec 32 := 1#32
  let v374 : BitVec 32 := Scalar.muli v373 c1_i32_235
  let v375 : BitVec 32 := Scalar.addi c0_i32_236 v374
  v375.toNat
def k0_dev35 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_232 : BitVec 32 := 2#32
  let v372 : BitVec 32 := Scalar.addi v2 c2_i32_232
  let c32_i32_233 : BitVec 32 := 32#32
  let v373 : BitVec 32 := Scalar.remsi v372 c32_i32_233
  let c1_i32_242 : BitVec 32 := 1#32
  let v384 : BitVec 32 := Scalar.muli v373 c1_i32_242
  let v385 : BitVec 32 := Scalar.addi c0_i32_243 v384
  v385.toNat
def k0_dev36 (d0 : Dev nD) : Nat :=
  let c0_i32_250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_246 : BitVec 32 := 3#32
  let v392 : BitVec 32 := Scalar.addi v2 c3_i32_246
  let c32_i32_247 : BitVec 32 := 32#32
  let v393 : BitVec 32 := Scalar.remsi v392 c32_i32_247
  let c1_i32_249 : BitVec 32 := 1#32
  let v394 : BitVec 32 := Scalar.muli v393 c1_i32_249
  let v395 : BitVec 32 := Scalar.addi c0_i32_250 v394
  v395.toNat
def k0_dev37 (d0 : Dev nD) : Nat :=
  let c0_i32_257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_246 : BitVec 32 := 3#32
  let v392 : BitVec 32 := Scalar.addi v2 c3_i32_246
  let c32_i32_247 : BitVec 32 := 32#32
  let v393 : BitVec 32 := Scalar.remsi v392 c32_i32_247
  let c1_i32_256 : BitVec 32 := 1#32
  let v404 : BitVec 32 := Scalar.muli v393 c1_i32_256
  let v405 : BitVec 32 := Scalar.addi c0_i32_257 v404
  v405.toNat
def k0_dev38 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_260 : BitVec 32 := 4#32
  let v412 : BitVec 32 := Scalar.addi v2 c4_i32_260
  let c32_i32_261 : BitVec 32 := 32#32
  let v413 : BitVec 32 := Scalar.remsi v412 c32_i32_261
  let c1_i32_263 : BitVec 32 := 1#32
  let v414 : BitVec 32 := Scalar.muli v413 c1_i32_263
  let v415 : BitVec 32 := Scalar.addi c0_i32_264 v414
  v415.toNat
def k0_dev39 (d0 : Dev nD) : Nat :=
  let c0_i32_271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_260 : BitVec 32 := 4#32
  let v412 : BitVec 32 := Scalar.addi v2 c4_i32_260
  let c32_i32_261 : BitVec 32 := 32#32
  let v413 : BitVec 32 := Scalar.remsi v412 c32_i32_261
  let c1_i32_270 : BitVec 32 := 1#32
  let v424 : BitVec 32 := Scalar.muli v413 c1_i32_270
  let v425 : BitVec 32 := Scalar.addi c0_i32_271 v424
  v425.toNat
def k0_dev40 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_274 : BitVec 32 := 5#32
  let v432 : BitVec 32 := Scalar.addi v2 c5_i32_274
  let c32_i32_275 : BitVec 32 := 32#32
  let v433 : BitVec 32 := Scalar.remsi v432 c32_i32_275
  let c1_i32_277 : BitVec 32 := 1#32
  let v434 : BitVec 32 := Scalar.muli v433 c1_i32_277
  let v435 : BitVec 32 := Scalar.addi c0_i32_278 v434
  v435.toNat
def k0_dev41 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_274 : BitVec 32 := 5#32
  let v432 : BitVec 32 := Scalar.addi v2 c5_i32_274
  let c32_i32_275 : BitVec 32 := 32#32
  let v433 : BitVec 32 := Scalar.remsi v432 c32_i32_275
  let c1_i32_284 : BitVec 32 := 1#32
  let v444 : BitVec 32 := Scalar.muli v433 c1_i32_284
  let v445 : BitVec 32 := Scalar.addi c0_i32_285 v444
  v445.toNat
def k0_dev42 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_288 : BitVec 32 := 6#32
  let v452 : BitVec 32 := Scalar.addi v2 c6_i32_288
  let c32_i32_289 : BitVec 32 := 32#32
  let v453 : BitVec 32 := Scalar.remsi v452 c32_i32_289
  let c1_i32_291 : BitVec 32 := 1#32
  let v454 : BitVec 32 := Scalar.muli v453 c1_i32_291
  let v455 : BitVec 32 := Scalar.addi c0_i32_292 v454
  v455.toNat
def k0_dev43 (d0 : Dev nD) : Nat :=
  let c0_i32_299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_288 : BitVec 32 := 6#32
  let v452 : BitVec 32 := Scalar.addi v2 c6_i32_288
  let c32_i32_289 : BitVec 32 := 32#32
  let v453 : BitVec 32 := Scalar.remsi v452 c32_i32_289
  let c1_i32_298 : BitVec 32 := 1#32
  let v464 : BitVec 32 := Scalar.muli v453 c1_i32_298
  let v465 : BitVec 32 := Scalar.addi c0_i32_299 v464
  v465.toNat
def k0_dev44 (d0 : Dev nD) : Nat :=
  let c0_i32_306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_302 : BitVec 32 := 7#32
  let v472 : BitVec 32 := Scalar.addi v2 c7_i32_302
  let c32_i32_303 : BitVec 32 := 32#32
  let v473 : BitVec 32 := Scalar.remsi v472 c32_i32_303
  let c1_i32_305 : BitVec 32 := 1#32
  let v474 : BitVec 32 := Scalar.muli v473 c1_i32_305
  let v475 : BitVec 32 := Scalar.addi c0_i32_306 v474
  v475.toNat
def k0_dev45 (d0 : Dev nD) : Nat :=
  let c0_i32_313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_302 : BitVec 32 := 7#32
  let v472 : BitVec 32 := Scalar.addi v2 c7_i32_302
  let c32_i32_303 : BitVec 32 := 32#32
  let v473 : BitVec 32 := Scalar.remsi v472 c32_i32_303
  let c1_i32_312 : BitVec 32 := 1#32
  let v484 : BitVec 32 := Scalar.muli v473 c1_i32_312
  let v485 : BitVec 32 := Scalar.addi c0_i32_313 v484
  v485.toNat
def k0_dev46 (d0 : Dev nD) : Nat :=
  let c0_i32_320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_316 : BitVec 32 := 8#32
  let v492 : BitVec 32 := Scalar.addi v2 c8_i32_316
  let c32_i32_317 : BitVec 32 := 32#32
  let v493 : BitVec 32 := Scalar.remsi v492 c32_i32_317
  let c1_i32_319 : BitVec 32 := 1#32
  let v494 : BitVec 32 := Scalar.muli v493 c1_i32_319
  let v495 : BitVec 32 := Scalar.addi c0_i32_320 v494
  v495.toNat
def k0_dev47 (d0 : Dev nD) : Nat :=
  let c0_i32_327 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_316 : BitVec 32 := 8#32
  let v492 : BitVec 32 := Scalar.addi v2 c8_i32_316
  let c32_i32_317 : BitVec 32 := 32#32
  let v493 : BitVec 32 := Scalar.remsi v492 c32_i32_317
  let c1_i32_326 : BitVec 32 := 1#32
  let v504 : BitVec 32 := Scalar.muli v493 c1_i32_326
  let v505 : BitVec 32 := Scalar.addi c0_i32_327 v504
  v505.toNat
def k0_dev48 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_330 : BitVec 32 := 9#32
  let v512 : BitVec 32 := Scalar.addi v2 c9_i32_330
  let c32_i32_331 : BitVec 32 := 32#32
  let v513 : BitVec 32 := Scalar.remsi v512 c32_i32_331
  let c1_i32_333 : BitVec 32 := 1#32
  let v514 : BitVec 32 := Scalar.muli v513 c1_i32_333
  let v515 : BitVec 32 := Scalar.addi c0_i32_334 v514
  v515.toNat
def k0_dev49 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_330 : BitVec 32 := 9#32
  let v512 : BitVec 32 := Scalar.addi v2 c9_i32_330
  let c32_i32_331 : BitVec 32 := 32#32
  let v513 : BitVec 32 := Scalar.remsi v512 c32_i32_331
  let c1_i32_340 : BitVec 32 := 1#32
  let v524 : BitVec 32 := Scalar.muli v513 c1_i32_340
  let v525 : BitVec 32 := Scalar.addi c0_i32_341 v524
  v525.toNat
def k0_dev50 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_344 : BitVec 32 := 10#32
  let v532 : BitVec 32 := Scalar.addi v2 c10_i32_344
  let c32_i32_345 : BitVec 32 := 32#32
  let v533 : BitVec 32 := Scalar.remsi v532 c32_i32_345
  let c1_i32_347 : BitVec 32 := 1#32
  let v534 : BitVec 32 := Scalar.muli v533 c1_i32_347
  let v535 : BitVec 32 := Scalar.addi c0_i32_348 v534
  v535.toNat
def k0_dev51 (d0 : Dev nD) : Nat :=
  let c0_i32_355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_344 : BitVec 32 := 10#32
  let v532 : BitVec 32 := Scalar.addi v2 c10_i32_344
  let c32_i32_345 : BitVec 32 := 32#32
  let v533 : BitVec 32 := Scalar.remsi v532 c32_i32_345
  let c1_i32_354 : BitVec 32 := 1#32
  let v544 : BitVec 32 := Scalar.muli v533 c1_i32_354
  let v545 : BitVec 32 := Scalar.addi c0_i32_355 v544
  v545.toNat
def k0_dev52 (d0 : Dev nD) : Nat :=
  let c0_i32_362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_358 : BitVec 32 := 11#32
  let v552 : BitVec 32 := Scalar.addi v2 c11_i32_358
  let c32_i32_359 : BitVec 32 := 32#32
  let v553 : BitVec 32 := Scalar.remsi v552 c32_i32_359
  let c1_i32_361 : BitVec 32 := 1#32
  let v554 : BitVec 32 := Scalar.muli v553 c1_i32_361
  let v555 : BitVec 32 := Scalar.addi c0_i32_362 v554
  v555.toNat
def k0_dev53 (d0 : Dev nD) : Nat :=
  let c0_i32_369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_358 : BitVec 32 := 11#32
  let v552 : BitVec 32 := Scalar.addi v2 c11_i32_358
  let c32_i32_359 : BitVec 32 := 32#32
  let v553 : BitVec 32 := Scalar.remsi v552 c32_i32_359
  let c1_i32_368 : BitVec 32 := 1#32
  let v564 : BitVec 32 := Scalar.muli v553 c1_i32_368
  let v565 : BitVec 32 := Scalar.addi c0_i32_369 v564
  v565.toNat
def k0_dev54 (d0 : Dev nD) : Nat :=
  let c0_i32_376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_372 : BitVec 32 := 12#32
  let v572 : BitVec 32 := Scalar.addi v2 c12_i32_372
  let c32_i32_373 : BitVec 32 := 32#32
  let v573 : BitVec 32 := Scalar.remsi v572 c32_i32_373
  let c1_i32_375 : BitVec 32 := 1#32
  let v574 : BitVec 32 := Scalar.muli v573 c1_i32_375
  let v575 : BitVec 32 := Scalar.addi c0_i32_376 v574
  v575.toNat
def k0_dev55 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_372 : BitVec 32 := 12#32
  let v572 : BitVec 32 := Scalar.addi v2 c12_i32_372
  let c32_i32_373 : BitVec 32 := 32#32
  let v573 : BitVec 32 := Scalar.remsi v572 c32_i32_373
  let c1_i32_382 : BitVec 32 := 1#32
  let v584 : BitVec 32 := Scalar.muli v573 c1_i32_382
  let v585 : BitVec 32 := Scalar.addi c0_i32_383 v584
  v585.toNat
def k0_dev56 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_386 : BitVec 32 := 13#32
  let v592 : BitVec 32 := Scalar.addi v2 c13_i32_386
  let c32_i32_387 : BitVec 32 := 32#32
  let v593 : BitVec 32 := Scalar.remsi v592 c32_i32_387
  let c1_i32_389 : BitVec 32 := 1#32
  let v594 : BitVec 32 := Scalar.muli v593 c1_i32_389
  let v595 : BitVec 32 := Scalar.addi c0_i32_390 v594
  v595.toNat
def k0_dev57 (d0 : Dev nD) : Nat :=
  let c0_i32_397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_386 : BitVec 32 := 13#32
  let v592 : BitVec 32 := Scalar.addi v2 c13_i32_386
  let c32_i32_387 : BitVec 32 := 32#32
  let v593 : BitVec 32 := Scalar.remsi v592 c32_i32_387
  let c1_i32_396 : BitVec 32 := 1#32
  let v604 : BitVec 32 := Scalar.muli v593 c1_i32_396
  let v605 : BitVec 32 := Scalar.addi c0_i32_397 v604
  v605.toNat
def k0_dev58 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_400 : BitVec 32 := 14#32
  let v612 : BitVec 32 := Scalar.addi v2 c14_i32_400
  let c32_i32_401 : BitVec 32 := 32#32
  let v613 : BitVec 32 := Scalar.remsi v612 c32_i32_401
  let c1_i32_403 : BitVec 32 := 1#32
  let v614 : BitVec 32 := Scalar.muli v613 c1_i32_403
  let v615 : BitVec 32 := Scalar.addi c0_i32_404 v614
  v615.toNat
def k0_dev59 (d0 : Dev nD) : Nat :=
  let c0_i32_411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_400 : BitVec 32 := 14#32
  let v612 : BitVec 32 := Scalar.addi v2 c14_i32_400
  let c32_i32_401 : BitVec 32 := 32#32
  let v613 : BitVec 32 := Scalar.remsi v612 c32_i32_401
  let c1_i32_410 : BitVec 32 := 1#32
  let v624 : BitVec 32 := Scalar.muli v613 c1_i32_410
  let v625 : BitVec 32 := Scalar.addi c0_i32_411 v624
  v625.toNat
def k0_dev60 (d0 : Dev nD) : Nat :=
  let c0_i32_418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_414 : BitVec 32 := 15#32
  let v632 : BitVec 32 := Scalar.addi v2 c15_i32_414
  let c32_i32_415 : BitVec 32 := 32#32
  let v633 : BitVec 32 := Scalar.remsi v632 c32_i32_415
  let c1_i32_417 : BitVec 32 := 1#32
  let v634 : BitVec 32 := Scalar.muli v633 c1_i32_417
  let v635 : BitVec 32 := Scalar.addi c0_i32_418 v634
  v635.toNat
def k0_dev61 (d0 : Dev nD) : Nat :=
  let c0_i32_425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_414 : BitVec 32 := 15#32
  let v632 : BitVec 32 := Scalar.addi v2 c15_i32_414
  let c32_i32_415 : BitVec 32 := 32#32
  let v633 : BitVec 32 := Scalar.remsi v632 c32_i32_415
  let c1_i32_424 : BitVec 32 := 1#32
  let v644 : BitVec 32 := Scalar.muli v633 c1_i32_424
  let v645 : BitVec 32 := Scalar.addi c0_i32_425 v644
  v645.toNat
def k0_dev62 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_428 : BitVec 32 := 16#32
  let v652 : BitVec 32 := Scalar.addi v2 c16_i32_428
  let c32_i32_429 : BitVec 32 := 32#32
  let v653 : BitVec 32 := Scalar.remsi v652 c32_i32_429
  let c1_i32_431 : BitVec 32 := 1#32
  let v654 : BitVec 32 := Scalar.muli v653 c1_i32_431
  let v655 : BitVec 32 := Scalar.addi c0_i32_432 v654
  v655.toNat
def k0_dev63 (d0 : Dev nD) : Nat :=
  let c0_i32_439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_428 : BitVec 32 := 16#32
  let v652 : BitVec 32 := Scalar.addi v2 c16_i32_428
  let c32_i32_429 : BitVec 32 := 32#32
  let v653 : BitVec 32 := Scalar.remsi v652 c32_i32_429
  let c1_i32_438 : BitVec 32 := 1#32
  let v664 : BitVec 32 := Scalar.muli v653 c1_i32_438
  let v665 : BitVec 32 := Scalar.addi c0_i32_439 v664
  v665.toNat
def k0_dev64 (d0 : Dev nD) : Nat :=
  let c0_i32_446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_442 : BitVec 32 := 17#32
  let v672 : BitVec 32 := Scalar.addi v2 c17_i32_442
  let c32_i32_443 : BitVec 32 := 32#32
  let v673 : BitVec 32 := Scalar.remsi v672 c32_i32_443
  let c1_i32_445 : BitVec 32 := 1#32
  let v674 : BitVec 32 := Scalar.muli v673 c1_i32_445
  let v675 : BitVec 32 := Scalar.addi c0_i32_446 v674
  v675.toNat
def k0_dev65 (d0 : Dev nD) : Nat :=
  let c0_i32_453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_442 : BitVec 32 := 17#32
  let v672 : BitVec 32 := Scalar.addi v2 c17_i32_442
  let c32_i32_443 : BitVec 32 := 32#32
  let v673 : BitVec 32 := Scalar.remsi v672 c32_i32_443
  let c1_i32_452 : BitVec 32 := 1#32
  let v684 : BitVec 32 := Scalar.muli v673 c1_i32_452
  let v685 : BitVec 32 := Scalar.addi c0_i32_453 v684
  v685.toNat
def k0_dev66 (d0 : Dev nD) : Nat :=
  let c0_i32_460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_456 : BitVec 32 := 18#32
  let v692 : BitVec 32 := Scalar.addi v2 c18_i32_456
  let c32_i32_457 : BitVec 32 := 32#32
  let v693 : BitVec 32 := Scalar.remsi v692 c32_i32_457
  let c1_i32_459 : BitVec 32 := 1#32
  let v694 : BitVec 32 := Scalar.muli v693 c1_i32_459
  let v695 : BitVec 32 := Scalar.addi c0_i32_460 v694
  v695.toNat
def k0_dev67 (d0 : Dev nD) : Nat :=
  let c0_i32_467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_456 : BitVec 32 := 18#32
  let v692 : BitVec 32 := Scalar.addi v2 c18_i32_456
  let c32_i32_457 : BitVec 32 := 32#32
  let v693 : BitVec 32 := Scalar.remsi v692 c32_i32_457
  let c1_i32_466 : BitVec 32 := 1#32
  let v704 : BitVec 32 := Scalar.muli v693 c1_i32_466
  let v705 : BitVec 32 := Scalar.addi c0_i32_467 v704
  v705.toNat
def k0_dev68 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_470 : BitVec 32 := 19#32
  let v712 : BitVec 32 := Scalar.addi v2 c19_i32_470
  let c32_i32_471 : BitVec 32 := 32#32
  let v713 : BitVec 32 := Scalar.remsi v712 c32_i32_471
  let c1_i32_473 : BitVec 32 := 1#32
  let v714 : BitVec 32 := Scalar.muli v713 c1_i32_473
  let v715 : BitVec 32 := Scalar.addi c0_i32_474 v714
  v715.toNat
def k0_dev69 (d0 : Dev nD) : Nat :=
  let c0_i32_481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_470 : BitVec 32 := 19#32
  let v712 : BitVec 32 := Scalar.addi v2 c19_i32_470
  let c32_i32_471 : BitVec 32 := 32#32
  let v713 : BitVec 32 := Scalar.remsi v712 c32_i32_471
  let c1_i32_480 : BitVec 32 := 1#32
  let v724 : BitVec 32 := Scalar.muli v713 c1_i32_480
  let v725 : BitVec 32 := Scalar.addi c0_i32_481 v724
  v725.toNat
def k0_dev70 (d0 : Dev nD) : Nat :=
  let c0_i32_488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_484 : BitVec 32 := 20#32
  let v732 : BitVec 32 := Scalar.addi v2 c20_i32_484
  let c32_i32_485 : BitVec 32 := 32#32
  let v733 : BitVec 32 := Scalar.remsi v732 c32_i32_485
  let c1_i32_487 : BitVec 32 := 1#32
  let v734 : BitVec 32 := Scalar.muli v733 c1_i32_487
  let v735 : BitVec 32 := Scalar.addi c0_i32_488 v734
  v735.toNat
def k0_dev71 (d0 : Dev nD) : Nat :=
  let c0_i32_495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_484 : BitVec 32 := 20#32
  let v732 : BitVec 32 := Scalar.addi v2 c20_i32_484
  let c32_i32_485 : BitVec 32 := 32#32
  let v733 : BitVec 32 := Scalar.remsi v732 c32_i32_485
  let c1_i32_494 : BitVec 32 := 1#32
  let v744 : BitVec 32 := Scalar.muli v733 c1_i32_494
  let v745 : BitVec 32 := Scalar.addi c0_i32_495 v744
  v745.toNat
def k0_dev72 (d0 : Dev nD) : Nat :=
  let c0_i32_502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_498 : BitVec 32 := 21#32
  let v752 : BitVec 32 := Scalar.addi v2 c21_i32_498
  let c32_i32_499 : BitVec 32 := 32#32
  let v753 : BitVec 32 := Scalar.remsi v752 c32_i32_499
  let c1_i32_501 : BitVec 32 := 1#32
  let v754 : BitVec 32 := Scalar.muli v753 c1_i32_501
  let v755 : BitVec 32 := Scalar.addi c0_i32_502 v754
  v755.toNat
def k0_dev73 (d0 : Dev nD) : Nat :=
  let c0_i32_509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_498 : BitVec 32 := 21#32
  let v752 : BitVec 32 := Scalar.addi v2 c21_i32_498
  let c32_i32_499 : BitVec 32 := 32#32
  let v753 : BitVec 32 := Scalar.remsi v752 c32_i32_499
  let c1_i32_508 : BitVec 32 := 1#32
  let v764 : BitVec 32 := Scalar.muli v753 c1_i32_508
  let v765 : BitVec 32 := Scalar.addi c0_i32_509 v764
  v765.toNat
def k0_dev74 (d0 : Dev nD) : Nat :=
  let c0_i32_516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_512 : BitVec 32 := 22#32
  let v772 : BitVec 32 := Scalar.addi v2 c22_i32_512
  let c32_i32_513 : BitVec 32 := 32#32
  let v773 : BitVec 32 := Scalar.remsi v772 c32_i32_513
  let c1_i32_515 : BitVec 32 := 1#32
  let v774 : BitVec 32 := Scalar.muli v773 c1_i32_515
  let v775 : BitVec 32 := Scalar.addi c0_i32_516 v774
  v775.toNat
def k0_dev75 (d0 : Dev nD) : Nat :=
  let c0_i32_523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_512 : BitVec 32 := 22#32
  let v772 : BitVec 32 := Scalar.addi v2 c22_i32_512
  let c32_i32_513 : BitVec 32 := 32#32
  let v773 : BitVec 32 := Scalar.remsi v772 c32_i32_513
  let c1_i32_522 : BitVec 32 := 1#32
  let v784 : BitVec 32 := Scalar.muli v773 c1_i32_522
  let v785 : BitVec 32 := Scalar.addi c0_i32_523 v784
  v785.toNat
def k0_dev76 (d0 : Dev nD) : Nat :=
  let c0_i32_530 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_526 : BitVec 32 := 23#32
  let v792 : BitVec 32 := Scalar.addi v2 c23_i32_526
  let c32_i32_527 : BitVec 32 := 32#32
  let v793 : BitVec 32 := Scalar.remsi v792 c32_i32_527
  let c1_i32_529 : BitVec 32 := 1#32
  let v794 : BitVec 32 := Scalar.muli v793 c1_i32_529
  let v795 : BitVec 32 := Scalar.addi c0_i32_530 v794
  v795.toNat
def k0_dev77 (d0 : Dev nD) : Nat :=
  let c0_i32_537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_526 : BitVec 32 := 23#32
  let v792 : BitVec 32 := Scalar.addi v2 c23_i32_526
  let c32_i32_527 : BitVec 32 := 32#32
  let v793 : BitVec 32 := Scalar.remsi v792 c32_i32_527
  let c1_i32_536 : BitVec 32 := 1#32
  let v804 : BitVec 32 := Scalar.muli v793 c1_i32_536
  let v805 : BitVec 32 := Scalar.addi c0_i32_537 v804
  v805.toNat
def k0_dev78 (d0 : Dev nD) : Nat :=
  let c0_i32_544 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_540 : BitVec 32 := 24#32
  let v812 : BitVec 32 := Scalar.addi v2 c24_i32_540
  let c32_i32_541 : BitVec 32 := 32#32
  let v813 : BitVec 32 := Scalar.remsi v812 c32_i32_541
  let c1_i32_543 : BitVec 32 := 1#32
  let v814 : BitVec 32 := Scalar.muli v813 c1_i32_543
  let v815 : BitVec 32 := Scalar.addi c0_i32_544 v814
  v815.toNat
def k0_dev79 (d0 : Dev nD) : Nat :=
  let c0_i32_551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_540 : BitVec 32 := 24#32
  let v812 : BitVec 32 := Scalar.addi v2 c24_i32_540
  let c32_i32_541 : BitVec 32 := 32#32
  let v813 : BitVec 32 := Scalar.remsi v812 c32_i32_541
  let c1_i32_550 : BitVec 32 := 1#32
  let v824 : BitVec 32 := Scalar.muli v813 c1_i32_550
  let v825 : BitVec 32 := Scalar.addi c0_i32_551 v824
  v825.toNat
def k0_dev80 (d0 : Dev nD) : Nat :=
  let c0_i32_558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_554 : BitVec 32 := 25#32
  let v832 : BitVec 32 := Scalar.addi v2 c25_i32_554
  let c32_i32_555 : BitVec 32 := 32#32
  let v833 : BitVec 32 := Scalar.remsi v832 c32_i32_555
  let c1_i32_557 : BitVec 32 := 1#32
  let v834 : BitVec 32 := Scalar.muli v833 c1_i32_557
  let v835 : BitVec 32 := Scalar.addi c0_i32_558 v834
  v835.toNat
def k0_dev81 (d0 : Dev nD) : Nat :=
  let c0_i32_565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_554 : BitVec 32 := 25#32
  let v832 : BitVec 32 := Scalar.addi v2 c25_i32_554
  let c32_i32_555 : BitVec 32 := 32#32
  let v833 : BitVec 32 := Scalar.remsi v832 c32_i32_555
  let c1_i32_564 : BitVec 32 := 1#32
  let v844 : BitVec 32 := Scalar.muli v833 c1_i32_564
  let v845 : BitVec 32 := Scalar.addi c0_i32_565 v844
  v845.toNat
def k0_dev82 (d0 : Dev nD) : Nat :=
  let c0_i32_572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_568 : BitVec 32 := 26#32
  let v852 : BitVec 32 := Scalar.addi v2 c26_i32_568
  let c32_i32_569 : BitVec 32 := 32#32
  let v853 : BitVec 32 := Scalar.remsi v852 c32_i32_569
  let c1_i32_571 : BitVec 32 := 1#32
  let v854 : BitVec 32 := Scalar.muli v853 c1_i32_571
  let v855 : BitVec 32 := Scalar.addi c0_i32_572 v854
  v855.toNat
def k0_dev83 (d0 : Dev nD) : Nat :=
  let c0_i32_579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_568 : BitVec 32 := 26#32
  let v852 : BitVec 32 := Scalar.addi v2 c26_i32_568
  let c32_i32_569 : BitVec 32 := 32#32
  let v853 : BitVec 32 := Scalar.remsi v852 c32_i32_569
  let c1_i32_578 : BitVec 32 := 1#32
  let v864 : BitVec 32 := Scalar.muli v853 c1_i32_578
  let v865 : BitVec 32 := Scalar.addi c0_i32_579 v864
  v865.toNat
def k0_dev84 (d0 : Dev nD) : Nat :=
  let c0_i32_586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_582 : BitVec 32 := 27#32
  let v872 : BitVec 32 := Scalar.addi v2 c27_i32_582
  let c32_i32_583 : BitVec 32 := 32#32
  let v873 : BitVec 32 := Scalar.remsi v872 c32_i32_583
  let c1_i32_585 : BitVec 32 := 1#32
  let v874 : BitVec 32 := Scalar.muli v873 c1_i32_585
  let v875 : BitVec 32 := Scalar.addi c0_i32_586 v874
  v875.toNat
def k0_dev85 (d0 : Dev nD) : Nat :=
  let c0_i32_593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_582 : BitVec 32 := 27#32
  let v872 : BitVec 32 := Scalar.addi v2 c27_i32_582
  let c32_i32_583 : BitVec 32 := 32#32
  let v873 : BitVec 32 := Scalar.remsi v872 c32_i32_583
  let c1_i32_592 : BitVec 32 := 1#32
  let v884 : BitVec 32 := Scalar.muli v873 c1_i32_592
  let v885 : BitVec 32 := Scalar.addi c0_i32_593 v884
  v885.toNat
def k0_dev86 (d0 : Dev nD) : Nat :=
  let c0_i32_600 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_596 : BitVec 32 := 28#32
  let v892 : BitVec 32 := Scalar.addi v2 c28_i32_596
  let c32_i32_597 : BitVec 32 := 32#32
  let v893 : BitVec 32 := Scalar.remsi v892 c32_i32_597
  let c1_i32_599 : BitVec 32 := 1#32
  let v894 : BitVec 32 := Scalar.muli v893 c1_i32_599
  let v895 : BitVec 32 := Scalar.addi c0_i32_600 v894
  v895.toNat
def k0_dev87 (d0 : Dev nD) : Nat :=
  let c0_i32_607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_596 : BitVec 32 := 28#32
  let v892 : BitVec 32 := Scalar.addi v2 c28_i32_596
  let c32_i32_597 : BitVec 32 := 32#32
  let v893 : BitVec 32 := Scalar.remsi v892 c32_i32_597
  let c1_i32_606 : BitVec 32 := 1#32
  let v904 : BitVec 32 := Scalar.muli v893 c1_i32_606
  let v905 : BitVec 32 := Scalar.addi c0_i32_607 v904
  v905.toNat
def k0_dev88 (d0 : Dev nD) : Nat :=
  let c0_i32_614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_610 : BitVec 32 := 29#32
  let v912 : BitVec 32 := Scalar.addi v2 c29_i32_610
  let c32_i32_611 : BitVec 32 := 32#32
  let v913 : BitVec 32 := Scalar.remsi v912 c32_i32_611
  let c1_i32_613 : BitVec 32 := 1#32
  let v914 : BitVec 32 := Scalar.muli v913 c1_i32_613
  let v915 : BitVec 32 := Scalar.addi c0_i32_614 v914
  v915.toNat
def k0_dev89 (d0 : Dev nD) : Nat :=
  let c0_i32_621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_610 : BitVec 32 := 29#32
  let v912 : BitVec 32 := Scalar.addi v2 c29_i32_610
  let c32_i32_611 : BitVec 32 := 32#32
  let v913 : BitVec 32 := Scalar.remsi v912 c32_i32_611
  let c1_i32_620 : BitVec 32 := 1#32
  let v924 : BitVec 32 := Scalar.muli v913 c1_i32_620
  let v925 : BitVec 32 := Scalar.addi c0_i32_621 v924
  v925.toNat
def k0_dev90 (d0 : Dev nD) : Nat :=
  let c0_i32_628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_624 : BitVec 32 := 30#32
  let v932 : BitVec 32 := Scalar.addi v2 c30_i32_624
  let c32_i32_625 : BitVec 32 := 32#32
  let v933 : BitVec 32 := Scalar.remsi v932 c32_i32_625
  let c1_i32_627 : BitVec 32 := 1#32
  let v934 : BitVec 32 := Scalar.muli v933 c1_i32_627
  let v935 : BitVec 32 := Scalar.addi c0_i32_628 v934
  v935.toNat
def k0_dev91 (d0 : Dev nD) : Nat :=
  let c0_i32_635 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_624 : BitVec 32 := 30#32
  let v932 : BitVec 32 := Scalar.addi v2 c30_i32_624
  let c32_i32_625 : BitVec 32 := 32#32
  let v933 : BitVec 32 := Scalar.remsi v932 c32_i32_625
  let c1_i32_634 : BitVec 32 := 1#32
  let v944 : BitVec 32 := Scalar.muli v933 c1_i32_634
  let v945 : BitVec 32 := Scalar.addi c0_i32_635 v944
  v945.toNat
def k0_dev92 (d0 : Dev nD) : Nat :=
  let c0_i32_642 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_638 : BitVec 32 := 31#32
  let v952 : BitVec 32 := Scalar.addi v2 c31_i32_638
  let c32_i32_639 : BitVec 32 := 32#32
  let v953 : BitVec 32 := Scalar.remsi v952 c32_i32_639
  let c1_i32_641 : BitVec 32 := 1#32
  let v954 : BitVec 32 := Scalar.muli v953 c1_i32_641
  let v955 : BitVec 32 := Scalar.addi c0_i32_642 v954
  v955.toNat
def k0_dev93 (d0 : Dev nD) : Nat :=
  let c0_i32_649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_638 : BitVec 32 := 31#32
  let v952 : BitVec 32 := Scalar.addi v2 c31_i32_638
  let c32_i32_639 : BitVec 32 := 32#32
  let v953 : BitVec 32 := Scalar.remsi v952 c32_i32_639
  let c1_i32_648 : BitVec 32 := 1#32
  let v964 : BitVec 32 := Scalar.muli v953 c1_i32_648
  let v965 : BitVec 32 := Scalar.addi c0_i32_649 v964
  v965.toNat
abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .local _ .vmem, ⟨0, _⟩ => ⟨S4096x4096, .bf16⟩
  | .local _ .vmem, ⟨1, _⟩ => ⟨S4096x2048, .bf16⟩
  | .local _ .vmem, ⟨2, _⟩ => ⟨S4096x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KernelIdeal.Protocol.lean ====
/-
# The exchange's protocol: cells, contents, schedule, levels

Thirty-two devices, each holding a block of rows of `x` and all of `w`. A device computes its rows of `y`, cuts them
into thirty-two column blocks, and sends column block `p` to device `p` beside the maximum of all its rows. It signals
every other device's barrier cell first, handing over the two places on itself that device will write, and waits for
the other thirty-one. Device `c`'s cells are named by `Cell`: its barrier cell, and for each of the four arrays of
thirty-two DMA semaphores the cell at an index.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ShareLeaves
public import Idealize.ShloMosaic.Lib.Ring
public import Idealize.ShloMosaic.Lib.Tactic

@[expose] public section

set_option maxRecDepth 4000

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

/-- A device's cells: its barrier cell, or entry `k` of semaphore array `b` — 0 the sends of `y`, 1 their receives,
    2 the sends of the maximum, 3 their receives. -/
abbrev Cell : Type := Option (Fin 4 × Dev nD)

abbrev barS : Sem sig := (SemArray.scalar (sig.barrier 0 rfl) : Sems sig S_).sem
def dmaIx (b : Fin 4) (k : Dev nD) : DmaSem sig :=
  ⟨3 + 32 * b.val + k.val, by have h1 := b.isLt; have h2 : k.val < 32 := k.isLt; show _ < 131; omega⟩
def csem : Cell → SemLoc sig
  | none => .reg barS
  | some (b, k) => .dma (dmaIx b k)
/-- Which cell a semaphore is (none of them: the pipeline's own three). -/
def dec : SemLoc sig → Option Cell
  | .reg _ => some none
  | .dma q => if h : 3 ≤ q.val then
      some (some (⟨(q.val - 3) / 32, by have : q.val < 131 := q.isLt; omega⟩, ⟨(q.val - 3) % 32, Nat.mod_lt _ (by decide)⟩))
    else none

theorem dec_csem (i : Cell) : dec (csem i) = some i := by
  rcases i with _ | ⟨b, k⟩
  · rfl
  · have h1 := b.isLt
    have h2 : k.val < 32 := k.isLt
    unfold csem dec dmaIx
    have h : 3 ≤ 3 + 32 * b.val + k.val := by omega
    simp only [dif_pos h]
    refine congrArg (fun z => some (some z)) (Prod.ext (Fin.ext ?_) (Fin.ext ?_))
    · show (3 + 32 * b.val + k.val - 3) / 32 = b.val
      omega
    · show (3 + 32 * b.val + k.val - 3) % 32 = k.val
      omega

theorem csem_injective : Function.Injective csem := fun i j h =>
  Option.some.inj ((dec_csem i).symm.trans ((congrArg dec h).trans (dec_csem j)))

abbrev cell (c : Dev nD) (i : Cell) : GSem nD τ sig := ((c : Thread nD τ), csem i)
abbrev bar (c : Dev nD) : GSem nD τ sig := cell c none
abbrev dsend (c k : Dev nD) : GSem nD τ sig := cell c (some (0, k))
abbrev drecv (c p : Dev nD) : GSem nD τ sig := cell c (some (1, p))
abbrev asend (c k : Dev nD) : GSem nD τ sig := cell c (some (2, k))
abbrev arecv (c p : Dev nD) : GSem nD τ sig := cell c (some (3, p))

theorem cell_inj {c c' : Dev nD} {i i' : Cell} (h : cell c i = cell c' i') : c = c' ∧ i = i' :=
  ⟨congrArg (fun g : GSem nD τ sig => g.1.1) h, csem_injective (congrArg Prod.snd h)⟩

/-! ## The buffers -/

abbrev xM : Memref sig .tc .vmem S128x4096 .bf16 := Memref.whole cc0_stg0_0
abbrev wM : Memref sig .tc .vmem S4096x2048 .bf16 := Memref.whole cc0_stg1_0
abbrev oM : Memref sig .tc .vmem S4096x64 .f32 := Memref.whole cc0_stg2_0
abbrev yM : Memref sig .tc .vmem S32x128x64 .bf16 := Memref.whole cc0_scratch0
abbrev dM : Memref sig .tc .vmem S32x128x64 .bf16 := Memref.whole cc0_scratch1
abbrev sM : Memref sig .tc .vmem S8x128 .f32 := Memref.whole cc0_scratch2
abbrev aM : Memref sig .tc .vmem S32x8x128 .f32 := Memref.whole cc0_scratch3

/-- The entry at `off` of a buffer of thirty-two blocks of `y`, as a transfer names it; -/
abbrev blkD (M : Memref sig .tc .vmem S32x128x64 .bf16) (off : Fin 3 → ℕ) (h : ∀ a, off a + S1x128x64.size a ≤ S32x128x64.size a) :
    Memref sig .tc .vmem S128x64 .bf16 :=
  (M.slice (Rect.unit (s := S32x128x64) off S1x128x64.size h) (fun _ => rfl)).squeeze S128x64 squeezes_S1x128x64_S128x64
/-- and of the buffer of thirty-two maxima. -/
abbrev blkA (M : Memref sig .tc .vmem S32x8x128 .f32) (off : Fin 3 → ℕ) (h : ∀ a, off a + S1x8x128.size a ≤ S32x8x128.size a) :
    Memref sig .tc .vmem S8x128 .f32 :=
  (M.slice (Rect.unit (s := S32x8x128) off S1x8x128.size h) (fun _ => rfl)).squeeze S8x128 squeezes_S1x8x128_S8x128
/-- The semaphore at `off` of an array of thirty-two. -/
abbrev semAt (A : DmaSems sig S32) (off : Fin 1 → ℕ) (h : ∀ a, off a + S1.size a ≤ S32.size a) : DmaSem sig :=
  ((A.slice (Rect.unit (s := S32) off S1.size h)).squeeze S_ squeezes_S1_S_).sem

/-- Entry `p` of a buffer of thirty-two blocks of `y`; -/
def setD (p : Dev nD) : Finset S32x128x64.Idx := Finset.univ.filter fun i => (i 0).val = p.val
/-- and of the buffer of thirty-two maxima. -/
def setA (p : Dev nD) : Finset S32x8x128.Idx := Finset.univ.filter fun i => (i 0).val = p.val

theorem mem_setD {p : Dev nD} {i : S32x128x64.Idx} : i ∈ setD p ↔ (i 0).val = p.val := by simp [setD]
theorem mem_setA {p : Dev nD} {i : S32x8x128.Idx} : i ∈ setA p ↔ (i 0).val = p.val := by simp [setA]

theorem setD_disjoint (p p' : Dev nD) (h : p ≠ p') : Disjoint (setD p) (setD p') :=
  Finset.disjoint_left.mpr fun i hi hi' => h (Fin.ext ((mem_setD.mp hi).symm.trans (mem_setD.mp hi')))
theorem setA_disjoint (p p' : Dev nD) (h : p ≠ p') : Disjoint (setA p) (setA p') :=
  Finset.disjoint_left.mpr fun i hi hi' => h (Fin.ext ((mem_setA.mp hi).symm.trans (mem_setA.mp hi')))
theorem setD_cover : Finset.univ.biUnion setD = Finset.univ :=
  Finset.eq_univ_iff_forall.mpr fun i => Finset.mem_biUnion.mpr ⟨⟨(i 0).val, (i 0).isLt⟩, Finset.mem_univ _, mem_setD.mpr rfl⟩
theorem setA_cover : Finset.univ.biUnion setA = Finset.univ :=
  Finset.eq_univ_iff_forall.mpr fun i => Finset.mem_biUnion.mpr ⟨⟨(i 0).val, (i 0).isLt⟩, Finset.mem_univ _, mem_setA.mpr rfl⟩

/-! ## Contents -/

/-- Rows `off` on of `w`, as the kernel loads them. -/
abbrev wRows (off : Fin 2 → ℕ) (h : ∀ a, off a + S512x2048.size a ≤ S4096x2048.size a) (w : Vec F S4096x2048 .bf16) : Vec F S512x2048 .bf16 :=
  wM.view.readAt (Elt F) (Rect.unit (s := S4096x2048) off S512x2048.size h).toLoadRect w
abbrev xAll (x : Vec F S128x4096 .bf16) : Vec F S128x4096 .bf16 :=
  xM.view.readAt (Elt F) (Rect.unit (s := S128x4096) ![0, 0] S128x4096.size inb_S128x4096_S128x4096_0_0).toLoadRect x

/-- The sum of the first six products of a device's rows; -/
def partY (x : Vec F S128x4096 .bf16) (w : Vec F S4096x2048 .bf16) : FVec F S128x2048 .f32 :=
  k0_pay3 (xAll x) (wRows ![0, 0] inb_S4096x2048_S512x2048_0_0 w) (wRows ![512, 0] inb_S4096x2048_S512x2048_512_0 w)
    (wRows ![1024, 0] inb_S4096x2048_S512x2048_1024_0 w) (wRows ![1536, 0] inb_S4096x2048_S512x2048_1536_0 w)
    (wRows ![2048, 0] inb_S4096x2048_S512x2048_2048_0 w) (wRows ![2560, 0] inb_S4096x2048_S512x2048_2560_0 w)
/-- its rows of `y`; -/
def rowsY (x : Vec F S128x4096 .bf16) (w : Vec F S4096x2048 .bf16) : FVec F S128x2048 .f32 :=
  k0_pay4 (k0_pay2 (xAll x)) (partY x w) (wRows ![3072, 0] inb_S4096x2048_S512x2048_3072_0 w) (wRows ![3584, 0] inb_S4096x2048_S512x2048_3584_0 w)
/-- and their maximum. -/
def maxY (x : Vec F S128x4096 .bf16) (w : Vec F S4096x2048 .bf16) : F .f32 :=
  k0_pay5 (k0_pay2 (xAll x)) (partY x w) (wRows ![3072, 0] inb_S4096x2048_S512x2048_3072_0 w) (wRows ![3584, 0] inb_S4096x2048_S512x2048_3584_0 w)

theorem slices_col : ∀ j : Dev nD, S128x2048.Slices ![0, 64 * j.val] S128x64 := by decide +kernel

/-- Column block `j` of a device's rows, as stored. -/
def colY (j : Dev nD) (y : FVec F S128x2048 .f32) : FVec F S1x128x64 .bf16 :=
  shapeCast S1x128x64 (truncf .bf16 (extractStridedSlice S128x64 ![0, 64 * j.val] y (slices_col j)) bitsLt_bf16_f32) shapeCasts_S128x64_S1x128x64

/-- The index of a block within a buffer of blocks. -/
abbrev inD (i : S32x128x64.Idx) : S1x128x64.Idx := fun a => match a with | ⟨0, _⟩ => (⟨0, Nat.one_pos⟩ : Fin 1) | ⟨1, _⟩ => i 1 | ⟨2, _⟩ => i 2
abbrev devD (i : S32x128x64.Idx) : Dev nD := ⟨(i 0).val, (i 0).isLt⟩
abbrev devA (i : S32x8x128.Idx) : Dev nD := ⟨(i 0).val, (i 0).isLt⟩

/-- All of a device's column blocks. -/
def blocksY (y : FVec F S128x2048 .f32) : S32x128x64.Idx → Elt F .bf16 := fun i => colY (devD i) y (inD i)
/-- The first `n` of them stored over `f`. -/
def blocksUpTo (n : ℕ) (y : FVec F S128x2048 .f32) (f : S32x128x64.Idx → Elt F .bf16) : S32x128x64.Idx → Elt F .bf16 :=
  fun i => if (i 0).val < n then blocksY y i else f i

/-- Device `c`'s operands as staged. -/
def xstg (c : Dev nD) : Vec F S128x4096 .bf16 :=
  (win0_0.blk (0 : Fin 1)).view.read (Elt F) ((s₀ m ρ).mem ((c : Thread nD τ).loc main_arg0))
def wstg (c : Dev nD) : Vec F S4096x2048 .bf16 :=
  (win0_1.blk (0 : Fin 1)).view.read (Elt F) ((s₀ m ρ).mem ((c : Thread nD τ).loc main_arg1))

def yOf (c : Dev nD) : FVec F S128x2048 .f32 := rowsY (xstg m ρ c) (wstg m ρ c)
def mOf (c : Dev nD) : F .f32 := maxY (xstg m ρ c) (wstg m ρ c)

/-- What device `c`'s blocks of `y` hold; -/
def YB (c : Dev nD) : S32x128x64.Idx → Elt F .bf16 := blocksY (yOf m ρ c)
/-- what it receives: entry `p` is device `p`'s column block `c`; -/
def DR (c : Dev nD) : S32x128x64.Idx → Elt F .bf16 := fun i => colY c (yOf m ρ (devD i)) (inD i)
/-- the maximum it sends; -/
def AM (c : Dev nD) : S8x128.Idx → Elt F .f32 := k0_pay41 (mOf m ρ c)
/-- and the maxima it receives: entry `p` is device `p`'s. -/
def AR (c : Dev nD) : S32x8x128.Idx → Elt F .f32 := fun i => mOf m ρ (devA i)

/-- Device `c`'s result. -/
def outAt (c : Dev nD) : Vec F S4096x64 .f32 := k0_pay1 (k0_pay44 (AR m ρ c)) (DR m ρ c)

/-! ## What a device holds of its buffers -/

def yPts (c p : Dev nD) (f : S32x128x64.Idx → Elt F .bf16) : sProp 𝕄 := ((c : Thread nD τ).loc cc0_scratch0) ↦[setD p]{fullShare} f
def dPts (c p : Dev nD) (f : S32x128x64.Idx → Elt F .bf16) : sProp 𝕄 := ((c : Thread nD τ).loc cc0_scratch1) ↦[setD p]{fullShare} f
def aPts (c p : Dev nD) (f : S32x8x128.Idx → Elt F .f32) : sProp 𝕄 := ((c : Thread nD τ).loc cc0_scratch3) ↦[setA p]{fullShare} f
/-- Share `k` of the maximum a device sends: one of thirty-two equal cuts. -/
def mShare (k : Dev nD) : PosShare TreeShare := ShareLeaves.leaf 5 fullShare k
def sPts (c k : Dev nD) : sProp 𝕄 := ((c : Thread nD τ).loc cc0_scratch2) ↦{mShare k} AM m ρ c

instance yPts_storable (c p : Dev nD) (f) : BI.Storable (upEmb : UEmb _ 𝕄) (yPts (F := F) c p f) := by unfold yPts; infer_instance
instance dPts_storable (c p : Dev nD) (f) : BI.Storable (upEmb : UEmb _ 𝕄) (dPts (F := F) c p f) := by unfold dPts; infer_instance
instance aPts_storable (c p : Dev nD) (f) : BI.Storable (upEmb : UEmb _ 𝕄) (aPts (F := F) c p f) := by unfold aPts; infer_instance
instance sPts_storable (c k : Dev nD) : BI.Storable (upEmb : UEmb _ 𝕄) (sPts (F := F) m ρ c k) := by unfold sPts; infer_instance

/-! ## The schedule -/

/-- The credit of one block's transfer, and of one maximum's. -/
abbrev ND : ℕ := (blkD dM ![0, 0, 0] inb_S32x128x64_S1x128x64_0_0_0).view.dmaCredit
abbrev NA : ℕ := (blkA aM ![0, 0, 0] inb_S32x8x128_S1x8x128_0_0_0).view.dmaCredit
theorem ND_pos : 0 < ND := View.dmaCredit_pos _ (by decide)
theorem NA_pos : 0 < NA := View.dmaCredit_pos _ (by decide)

/-- What device `d`'s signal hands device `c`: the two places on `d` that `c` writes. -/
def barPay (c d : Dev nD) : sProp 𝕄 := iprop((∃ f, dPts (F := F) d c f) ∗ (∃ f, aPts (F := F) d c f))

def dutiesOf (c : Dev nD) : Cell → Finset (Dev nD)
  | none => Finset.univ.erase c
  | some (b, k) => if (if b = 0 ∨ b = 2 then (0 : Dev nD) else c) = k then ∅ else {0}
def amountOf : Cell → ℕ
  | none => 1
  | some (b, _) => if b = 0 ∨ b = 1 then ND else NA
def payOf (c d : Dev nD) : Cell → sProp 𝕄
  | none => barPay c d
  | some (0, k) => yPts c (c + k) (YB m ρ c)
  | some (1, p) => dPts c p (DR m ρ c)
  | some (2, k) => sPts m ρ c k
  | some (3, p) => aPts c p (AR m ρ c)

/-- One round, round 0. -/
def Rd : Rounds.Schedule (GSem nD τ sig) (Dev nD) 𝕄 where
  duties g r := if r = 0 ∧ g.1.2 = .tc then (dec g.2).elim ∅ (dutiesOf g.1.1) else ∅
  unitless _ := False
  amount g _ _ := (dec g.2).elim 1 amountOf
  payload g _ d := (dec g.2).elim iprop(emp) (payOf m ρ g.1.1 d)
  amount_pos g _ _ _ := by
    rcases dec g.2 with _ | _ | ⟨b, k⟩
    · exact Nat.one_pos
    · exact Nat.one_pos
    · show 0 < if b = 0 ∨ b = 1 then ND else NA
      split; exacts [ND_pos, NA_pos]

instance payOf_storable (c d : Dev nD) (i : Cell) : BI.Storable (upEmb : UEmb _ 𝕄) (payOf m ρ c d i) := by
  rcases i with _ | ⟨b, k⟩
  · unfold payOf barPay; infer_instance
  · fin_cases b <;> (unfold payOf; infer_instance)

instance Rd_payload_storable (g : GSem nD τ sig) (r : ℕ) (d : Dev nD) : BI.Storable (upEmb : UEmb _ 𝕄) ((Rd (F := F) m ρ).payload g r d) := by
  show BI.Storable upEmb ((dec g.2).elim iprop(emp) (payOf m ρ g.1.1 d))
  rcases dec g.2 with _ | i
  · show BI.Storable upEmb (iprop(emp) : sProp 𝕄); infer_instance
  · show BI.Storable upEmb (payOf m ρ g.1.1 d i); infer_instance

theorem Rd_duties (c : Dev nD) (i : Cell) : (Rd (F := F) m ρ).duties (cell c i) 0 = dutiesOf c i := by
  dsimp only [Rd]; rw [if_pos ⟨rfl, rfl⟩, dec_csem]; rfl
theorem Rd_later (g : GSem nD τ sig) : ∀ r, 1 ≤ r → (Rd (F := F) m ρ).duties g r = ∅ :=
  fun r hr => by dsimp only [Rd]; rw [if_neg fun h => by omega]
theorem Rd_amount (c : Dev nD) (i : Cell) (d : Dev nD) : (Rd (F := F) m ρ).amount (cell c i) 0 d = amountOf i := by
  dsimp only [Rd]; rw [dec_csem]; rfl
theorem Rd_payload (c : Dev nD) (i : Cell) (d : Dev nD) : (Rd (F := F) m ρ).payload (cell c i) 0 d = payOf m ρ c d i := by
  dsimp only [Rd]; rw [dec_csem]; rfl

theorem duties_send (c : Dev nD) {b : Fin 4} (hb : b = 0 ∨ b = 2) {k : Dev nD} (hk : k ≠ 0) : dutiesOf c (some (b, k)) = {0} := by
  dsimp only [dutiesOf]; rw [if_pos hb, if_neg fun h => hk h.symm]
theorem duties_recv (c : Dev nD) {b : Fin 4} (hb : ¬(b = 0 ∨ b = 2)) {p : Dev nD} (hp : p ≠ c) : dutiesOf c (some (b, p)) = {0} := by
  dsimp only [dutiesOf]; rw [if_neg hb, if_neg fun h => hp h.symm]
theorem duties_send0 (c : Dev nD) {b : Fin 4} (hb : b = 0 ∨ b = 2) : dutiesOf c (some (b, 0)) = ∅ := by
  dsimp only [dutiesOf]; rw [if_pos hb, if_pos rfl]
theorem duties_recv0 (c : Dev nD) {b : Fin 4} (hb : ¬(b = 0 ∨ b = 2)) : dutiesOf c (some (b, c)) = ∅ := by
  dsimp only [dutiesOf]; rw [if_neg hb, if_pos rfl]

theorem expect_bar (c : Dev nD) : (Rd (F := F) m ρ).expect (bar c) 0 = 31 := by
  unfold Schedule.expect Schedule.amountOf
  rw [Rd_duties, Finset.sum_congr rfl fun d _ => Rd_amount m ρ c none d]
  show ∑ _d ∈ Finset.univ.erase c, 1 = 31
  rw [Finset.sum_const, Finset.card_erase_of_mem (Finset.mem_univ _), Finset.card_univ, Fintype.card_fin]
  decide
theorem expect_one (c : Dev nD) (i : Cell) (h : dutiesOf c i = {0}) : (Rd (F := F) m ρ).expect (cell c i) 0 = amountOf i := by
  unfold Schedule.expect Schedule.amountOf; rw [Rd_duties, h, Finset.sum_singleton, Rd_amount]
theorem rest_one (c : Dev nD) (i : Cell) (h : dutiesOf c i = {0}) :
    bigSep ((Rd (F := F) m ρ).duties (cell c i) 0 \ ∅) (fun d => (Rd (F := F) m ρ).payload (cell c i) 0 d) = payOf m ρ c 0 i := by
  rw [Finset.sdiff_empty, Rd_duties, h, bigSep_singleton, Rd_payload]
theorem rest_bar (c : Dev nD) :
    bigSep ((Rd (F := F) m ρ).duties (bar c) 0 \ ∅) (fun d => (Rd (F := F) m ρ).payload (bar c) 0 d)
      = bigSep (Finset.univ.erase c) (fun d => barPay (F := F) c d) := by
  rw [Finset.sdiff_empty, Rd_duties]
  exact bigSep_congr fun d _ => Rd_payload m ρ c none d

/-! ## What a device owes; the levels -/

/-- The indices from `n` on. -/
def fr (n : ℕ) : Finset (Dev nD) := Finset.univ.filter fun k => n ≤ k.val

theorem fr_eq_insert {n : ℕ} (h : n < 32) : fr n = insert (⟨n, h⟩ : Dev nD) (fr (n + 1)) := by
  ext k
  simp only [fr, Finset.mem_filter, Finset.mem_univ, true_and, Finset.mem_insert, Fin.ext_iff]
  omega
theorem fr_notMem {n : ℕ} (h : n < 32) : (⟨n, h⟩ : Dev nD) ∉ fr (n + 1) := by
  simp [fr]

/-- A family's tallies from index `n` on. -/
def owedFrom (t : Dev nD → CellTallies nD τ sig Unit) (n : ℕ) : CellTallies nD τ sig Unit := ∑ k ∈ fr n, t k

theorem owedFrom_step (t : Dev nD → CellTallies nD τ sig Unit) {n : ℕ} (h : n < 32) :
    owedFrom t n = owedFrom t (n + 1) + t ⟨n, h⟩ := by
  unfold owedFrom; rw [fr_eq_insert h, Finset.sum_insert (fr_notMem h), add_comm]
theorem owedFrom_end (t : Dev nD → CellTallies nD τ sig Unit) : owedFrom t 32 = 0 := by
  unfold owedFrom
  rw [show fr 32 = ∅ from Finset.filter_eq_empty_iff.mpr fun k _ => by have : k.val < 32 := k.isLt; omega, Finset.sum_empty]

def tB (c k : Dev nD) : CellTallies nD τ sig Unit := tallyAt (bar (c + k)) () 1
def tD (c k : Dev nD) : CellTallies nD τ sig Unit := tallyAt (drecv (c + k) c) () ND
def tA (c k : Dev nD) : CellTallies nD τ sig Unit := tallyAt (arecv (c + k) c) () NA

/-- The transfers a device owes: blocks from index `n`, maxima from index `q`; -/
def OX (c : Dev nD) (n q : ℕ) : CellTallies nD τ sig Unit := owedFrom (tD c) n + owedFrom (tA c) q
/-- and the signals from index `n` beside all transfers. -/
def OS (c : Dev nD) (n : ℕ) : CellTallies nD τ sig Unit := owedFrom (tB c) n + OX c 1 1
def O₀ (c : Dev nD) : CellTallies nD τ sig Unit := OS c 1

theorem OS_step (c : Dev nD) {n : ℕ} (h : n < 32) : OS c n = OS c (n + 1) + tB c ⟨n, h⟩ := by
  unfold OS; rw [owedFrom_step _ h, add_right_comm]
theorem OS_end (c : Dev nD) : OS c 32 = OX c 1 1 := by unfold OS; rw [owedFrom_end, zero_add]
theorem OX_stepD (c : Dev nD) {n : ℕ} (h : n < 32) (q : ℕ) : OX c n q = OX c (n + 1) q + tD c ⟨n, h⟩ := by
  unfold OX; rw [owedFrom_step _ h, add_right_comm]
theorem OX_stepA (c : Dev nD) (n : ℕ) {q : ℕ} (h : q < 32) : OX c n q = OX c n (q + 1) + tA c ⟨q, h⟩ := by
  unfold OX; rw [owedFrom_step _ h, add_assoc]
theorem OX_end (c : Dev nD) : OX c 32 32 = 0 := by unfold OX; rw [owedFrom_end, owedFrom_end, zero_add]

def L (g : GSem nD τ sig) : Finset Unit := if g.1.2 = .tc then {()} else ∅
/-- Barrier cells at 1, receive cells at 2, everything else at 0. -/
def lv (g : GSem nD τ sig) (_ : Unit) : ℕ :=
  (dec g.2).elim 0 fun i => match i with | none => 1 | some (b, _) => if b = 1 ∨ b = 3 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (i : Cell) : lv (cell c i) () = match i with | none => 1 | some (b, _) => if b = 1 ∨ b = 3 then 2 else 0 := by
  unfold lv; rw [dec_csem]; rfl

theorem owedFrom_pos {t : Dev nD → CellTallies nD τ sig Unit} {n : ℕ} {g : GSem nD τ sig} {u : Unit} (h : 0 < owedFrom t n g u) :
    ∃ k, n ≤ k.val ∧ 0 < t k g u := by
  unfold owedFrom at h
  rw [Finset.sum_apply, Finsupp.finset_sum_apply] at h
  obtain ⟨k, hk, hp⟩ := Finset.exists_ne_zero_of_sum_ne_zero h.ne'
  exact ⟨k, (Finset.mem_filter.mp hk).2, Nat.pos_of_ne_zero hp⟩

theorem tallyAt_pos {g g' : GSem nD τ sig} {u : Unit} {n : ℕ} (h : 0 < (tallyAt g' () n : CellTallies nD τ sig Unit) g u) : g = g' := by
  by_contra hn
  rw [tallyAt_apply, if_neg fun h' => hn h'.1] at h
  exact Nat.lt_irrefl 0 h

theorem OX_pos {c : Dev nD} {n q : ℕ} {g : GSem nD τ sig} {u : Unit} (h : 0 < OX c n q g u) :
    ∃ d : Dev nD, g = drecv d c ∨ g = arecv d c := by
  unfold OX at h
  rw [Pi.add_apply, Finsupp.add_apply] at h
  rcases Nat.eq_zero_or_pos (owedFrom (tD c) n g u) with h0 | h1
  · rw [h0, Nat.zero_add] at h
    obtain ⟨k, _, hp⟩ := owedFrom_pos h
    exact ⟨c + k, .inr (tallyAt_pos hp)⟩
  · obtain ⟨k, _, hp⟩ := owedFrom_pos h1
    exact ⟨c + k, .inl (tallyAt_pos hp)⟩
theorem O₀_pos {c : Dev nD} {g : GSem nD τ sig} {u : Unit} (h : 0 < O₀ c g u) :
    ∃ d : Dev nD, g = bar d ∨ g = drecv d c ∨ g = arecv d c := by
  unfold O₀ OS at h
  rw [Pi.add_apply, Finsupp.add_apply] at h
  rcases Nat.eq_zero_or_pos (owedFrom (tB c) 1 g u) with h0 | h1
  · rw [h0, Nat.zero_add] at h
    obtain ⟨d, hd⟩ := OX_pos h
    exact ⟨d, .inr hd⟩
  · obtain ⟨k, _, hp⟩ := owedFrom_pos h1
    exact ⟨c + k, .inl (tallyAt_pos hp)⟩

theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨d, rfl | rfl | rfl⟩ := O₀_pos hg <;> exact Finset.mem_singleton_self _)
      (fun p hp => by
        rw [Finset.mem_singleton.mp hp]; unfold lv
        rw [show dec (SemLoc.dma q) = none from dif_neg (by omega)]; exact Nat.le_refl 0)
      (fun g u hg => by
        obtain ⟨d, rfl | rfl | rfl⟩ := O₀_pos hg <;> (show 0 < lv _ (); rw [lv_cell]; exact Nat.succ_pos _))
  · rw [MayWait_zero]; iintro -; iempintro

/-- At its barrier wait a device owes transfers only: receive cells, above its barrier cell. -/
theorem mayWait_bar (c : Dev nD) : (levAts L lv : sProp 𝕄) ⊢ MayWait (c : Thread nD τ) (.reg barS) () (OX c 1 1) :=
  MayOwe.of_cut (L := L) (lev := lv) 1 (fun p hp => by rw [Finset.mem_singleton.mp hp, L_tc]; exact Finset.mem_singleton_self _)
    (fun g u hg => by obtain ⟨d, rfl | rfl⟩ := OX_pos hg <;> exact Finset.mem_singleton_self _)
    (fun p hp => by rw [Finset.mem_singleton.mp hp]; exact Nat.le_refl 1)
    (fun g u hg => by
      obtain ⟨d, rfl | rfl⟩ := OX_pos hg <;> (show 1 < lv _ (); rw [lv_cell]; exact Nat.lt_succ_self 1))

end Cert.KernelIdeal.Run

end
-- ==== Proof.KernelIdeal.Steps.lean ====
/-
# Program steps

The rules the rest is written with: a statement of the program from what a device holds before it to what it holds
after. First the forms that carry a frame, then the signals, the transfers and their waits, each stated once for any
device and index.
-/
module

public import proofs.«01_k».proof.Proof.KernelIdeal.Protocol

@[expose] public section

set_option maxRecDepth 4000

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Sets of indices -/

/-- The indices from `a` up to `n`. -/
def dn (a n : ℕ) : Finset (Dev nD) := Finset.univ.filter fun k => a ≤ k.val ∧ k.val < n

theorem dn_self (a : ℕ) : dn a a = ∅ := Finset.filter_eq_empty_iff.mpr fun k _ => by omega
theorem dn_full (a : ℕ) : dn a 32 = fr a :=
  Finset.filter_congr fun k _ => by have : k.val < 32 := k.isLt; omega
theorem dn_insert {a n : ℕ} (ha : a ≤ n) (h : n < 32) : dn a (n + 1) = insert (⟨n, h⟩ : Dev nD) (dn a n) := by
  ext k
  simp only [dn, Finset.mem_filter, Finset.mem_univ, true_and, Finset.mem_insert, Fin.ext_iff]
  omega
theorem dn_notMem (a : ℕ) {n : ℕ} (h : n < 32) : (⟨n, h⟩ : Dev nD) ∉ dn a n := by simp [dn]

theorem fr_bigSep (Φ : Dev nD → sProp 𝕄) {n : ℕ} (h : n < 32) :
    bigSep (fr n) Φ = iprop(Φ ⟨n, h⟩ ∗ bigSep (fr (n + 1)) Φ) := by
  rw [fr_eq_insert h, bigSep_insert (fr_notMem h)]; rfl
theorem dn_bigSep (Φ : Dev nD → sProp 𝕄) {a n : ℕ} (ha : a ≤ n) (h : n < 32) :
    bigSep (dn a (n + 1)) Φ = iprop(Φ ⟨n, h⟩ ∗ bigSep (dn a n) Φ) := by
  rw [dn_insert ha h, bigSep_insert (dn_notMem a h)]; rfl
theorem fr_at (Φ : Dev nD → sProp 𝕄) (k : Dev nD) : bigSep (fr k.val) Φ = iprop(Φ k ∗ bigSep (fr (k.val + 1)) Φ) := fr_bigSep Φ k.isLt
theorem dn_at (Φ : Dev nD → sProp 𝕄) {a : ℕ} {k : Dev nD} (ha : a ≤ k.val) :
    bigSep (dn a (k.val + 1)) Φ = iprop(Φ k ∗ bigSep (dn a k.val) Φ) := dn_bigSep Φ ha k.isLt
theorem fr_zero : fr 0 = Finset.univ := Finset.filter_true_of_mem fun k _ => Nat.zero_le _

/-! ## The semaphores' and devices' names in the program -/

theorem semAt_4 : ∀ (k : Dev nD) (h), semAt cc0_scratch4 ![k.val] h = dmaIx 0 k := by decide +kernel
theorem semAt_5 : ∀ (k : Dev nD) (h), semAt cc0_scratch5 ![k.val] h = dmaIx 1 k := by decide +kernel
theorem semAt_6 : ∀ (k : Dev nD) (h), semAt cc0_scratch6 ![k.val] h = dmaIx 2 k := by decide +kernel
theorem semAt_7 : ∀ (k : Dev nD) (h), semAt cc0_scratch7 ![k.val] h = dmaIx 3 k := by decide +kernel

/-! ## The places a transfer names -/

theorem rectD_set (p : Dev nD) (h) : (Rect.unit (s := S32x128x64) ![p.val, 0, 0] S1x128x64.size h).set = setD p := by
  ext i
  rw [mem_setD, Rect.mem_set_unit]
  constructor
  · intro hi
    have h0 : p.val ≤ (i 0).val ∧ (i 0).val < p.val + 1 := hi 0
    omega
  · intro hi a
    match a with
    | ⟨0, _⟩ => exact ⟨by show p.val ≤ (i 0).val; omega, by show (i 0).val < p.val + 1; omega⟩
    | ⟨1, _⟩ => exact ⟨Nat.zero_le _, (i 1).isLt.trans_eq (Nat.zero_add _).symm⟩
    | ⟨2, _⟩ => exact ⟨Nat.zero_le _, (i 2).isLt.trans_eq (Nat.zero_add _).symm⟩
theorem rectA_set (p : Dev nD) (h) : (Rect.unit (s := S32x8x128) ![p.val, 0, 0] S1x8x128.size h).set = setA p := by
  ext i
  rw [mem_setA, Rect.mem_set_unit]
  constructor
  · intro hi
    have h0 : p.val ≤ (i 0).val ∧ (i 0).val < p.val + 1 := hi 0
    omega
  · intro hi a
    match a with
    | ⟨0, _⟩ => exact ⟨by show p.val ≤ (i 0).val; omega, by show (i 0).val < p.val + 1; omega⟩
    | ⟨1, _⟩ => exact ⟨Nat.zero_le _, (i 1).isLt.trans_eq (Nat.zero_add _).symm⟩
    | ⟨2, _⟩ => exact ⟨Nat.zero_le _, (i 2).isLt.trans_eq (Nat.zero_add _).symm⟩

theorem yblk_set (p : Dev nD) (h) : (blkD yM ![p.val, 0, 0] h).view.set = setD p := by
  exact (View.set_reshape _ _).trans ((View.set_slice_whole _ _).trans (rectD_set p h))
theorem dblk_set (p : Dev nD) (h) : (blkD dM ![p.val, 0, 0] h).view.set = setD p := by
  exact (View.set_reshape _ _).trans ((View.set_slice_whole _ _).trans (rectD_set p h))
theorem ablk_set (p : Dev nD) (h) : (blkA aM ![p.val, 0, 0] h).view.set = setA p := by
  exact (View.set_reshape _ _).trans ((View.set_slice_whole _ _).trans (rectA_set p h))

theorem devD_emb (p : Dev nD) (h) (z : S1x128x64.Idx) : devD ((Rect.unit (s := S32x128x64) ![p.val, 0, 0] S1x128x64.size h).emb z) = p :=
  Fin.ext (by show p.val + 1 * (z 0).val = p.val; have : (z 0).val < 1 := (z 0).isLt; omega)
theorem devA_emb (p : Dev nD) (h) (z : S1x8x128.Idx) : devA ((Rect.unit (s := S32x8x128) ![p.val, 0, 0] S1x8x128.size h).emb z) = p :=
  Fin.ext (by show p.val + 1 * (z 0).val = p.val; have : (z 0).val < 1 := (z 0).isLt; omega)
theorem inD_emb (p : Dev nD) (h) (z : S1x128x64.Idx) : inD ((Rect.unit (s := S32x128x64) ![p.val, 0, 0] S1x128x64.size h).emb z) = z :=
  funext fun a => match a with
    | ⟨0, _⟩ => Fin.ext (by show 0 = (z 0).val; have : (z 0).val < 1 := (z 0).isLt; omega)
    | ⟨1, _⟩ => Fin.ext (by show 0 + 1 * (z 1).val = (z 1).val; omega)
    | ⟨2, _⟩ => Fin.ext (by show 0 + 1 * (z 2).val = (z 2).val; omega)

theorem shapeCast_const {α : Type} {s t : Shape} (x : α) (h : s.ShapeCasts t) : shapeCast t (broadcast s x) h = fun _ => x := rfl
theorem AM_apply (c : Dev nD) (x : S8x128.Idx) : AM m ρ c x = mOf m ρ c := by
  unfold AM k0_pay41
  exact congrFun (shapeCast_const (mOf m ρ c) _) x

/-- What a device's column block becomes where it lands: entry `c` of what device `p` receives. -/
theorem sent_block (c p : Dev nD) (hs hd) (fd : S32x128x64.Idx → Elt F .bf16) :
    ∀ i ∈ (blkD dM ![c.val, 0, 0] hd).view.set,
      (blkD dM ![c.val, 0, 0] hd).view.write (Elt F) fd ((blkD yM ![p.val, 0, 0] hs).view.read (Elt F) (YB m ρ c)) Finset.univ i = DR m ρ p i := by
  intro i hi
  obtain ⟨x, -, rfl⟩ := Finset.mem_map.mp hi
  refine (View.write_emb_of_mem _ _ (Finset.mem_univ x)).trans ?_
  let z : S1x128x64.Idx := Shape.reshapeEquiv squeezes_S1x128x64_S128x64.numel_eq x
  show YB m ρ c ((Rect.unit (s := S32x128x64) ![p.val, 0, 0] S1x128x64.size hs).emb z)
    = DR m ρ p ((Rect.unit (s := S32x128x64) ![c.val, 0, 0] S1x128x64.size hd).emb z)
  unfold YB blocksY DR
  rw [devD_emb, devD_emb, inD_emb, inD_emb]

theorem AR_at_emb (c p : Dev nD) (hd) (x : S8x128.Idx) : AR m ρ p ((blkA aM ![c.val, 0, 0] hd).view.emb x) = mOf m ρ c := by
    let z : S1x8x128.Idx := Shape.reshapeEquiv squeezes_S1x8x128_S8x128.numel_eq x
    show AR m ρ p ((Rect.unit (s := S32x8x128) ![c.val, 0, 0] S1x8x128.size hd).emb z) = _
    unfold AR
    rw [devA_emb]

theorem write_const (c : Dev nD) (hd) (fd : S32x8x128.Idx → Elt F .f32) (v : F .f32) (x : S8x128.Idx) :
      (blkA aM ![c.val, 0, 0] hd).view.write (Elt F) fd (sM.view.read (Elt F) (fun _ => v)) Finset.univ ((blkA aM ![c.val, 0, 0] hd).view.emb x) = v := by
  exact View.write_emb_of_mem _ _ (Finset.mem_univ x)

theorem sent_max (c p : Dev nD) (hd) (fd : S32x8x128.Idx → Elt F .f32) :
    ∀ i ∈ (blkA aM ![c.val, 0, 0] hd).view.set,
      (blkA aM ![c.val, 0, 0] hd).view.write (Elt F) fd (sM.view.read (Elt F) (AM m ρ c)) Finset.univ i = AR m ρ p i := by
  intro i hi
  obtain ⟨x, -, rfl⟩ := Finset.mem_map.mp hi
  have hA : AM m ρ c = fun _ => mOf m ρ c := funext (AM_apply m ρ c)
  generalize AM m ρ c = g at hA ⊢
  subst hA
  exact (write_const c hd fd (mOf m ρ c) x).trans (AR_at_emb m ρ c p hd x).symm

/-! ## The steps -/

abbrev bwp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem seq {c : Dev nD} {α β : Type} {p : Prog (TpuEff nD τ sig (Elt F) Λ₀ .tc) α} {k : α → Prog (TpuEff nD τ sig (Elt F) Λ₀ .tc) β}
    {Q : β → sProp 𝕄} {X : sProp 𝕄} (h : X ⊢ bwp c p fun a => bwp c (k a) Q) : X ⊢ bwp c (p >>= k) Q := by
  unfold bwp at h ⊢; rw [wp_bind]; exact h
theorem fin {c : Dev nD} {α : Type} {a : α} {Q : α → sProp 𝕄} {X : sProp 𝕄} (h : X ⊢ Q a) : X ⊢ bwp c (pure a) Q :=
  by
  refine h.trans ?_
  show Q a ⊢ iprop(|={Set.univ}=> Q a)
  iintro H; imodintro; iexact H

variable (K : Dev nD × Cell → ℕ)

/-- The cells' invariants under the names `K`, and that round 0 of each is reached. -/
def recs : sProp 𝕄 := bigSep Finset.univ fun x : Dev nD × Cell =>
  iprop(cellInv ER (Rd m ρ) (K x) (cell x.1 x.2) ∗ reached ER (cell x.1 x.2) 0)

instance recs_persistent : BI.Persistent (recs m ρ K) := by unfold recs; infer_instance

theorem recs_inv (c : Dev nD) (i : Cell) : recs m ρ K ⊢ cellInv ER (Rd m ρ) (K (c, i)) (cell c i) := by
  unfold recs
  exact (bigSep_elim (Finset.mem_univ (c, i))).trans (sep_and.trans and_elimL)
theorem recs_reached (c : Dev nD) (i : Cell) : recs m ρ K ⊢ reached ER (cell c i) 0 := by
  unfold recs
  exact (bigSep_elim (Finset.mem_univ (c, i))).trans (sep_and.trans and_elimR)

theorem mem_duties (c : Dev nD) (i : Cell) {d : Dev nD} (h : d ∈ dutiesOf c i) : d ∈ (Rd (F := F) m ρ).duties (cell c i) 0 := by
  rw [Rd_duties]; exact h
theorem payload_intro (c : Dev nD) (i : Cell) (d : Dev nD) : payOf m ρ c d i ⊢ (Rd (F := F) m ρ).payload (cell c i) 0 d :=
  Entails.of_eq (Rd_payload m ρ c i d).symm

/-! ### Signals -/

/-- What signal `k` uses: its duty at device `c + k` and the two places there handed over. -/
def sigRes (c k : Dev nD) : sProp 𝕄 := iprop(dutyTok ER (bar (c + k)) 0 c ∗ barPay (F := F) (c + k) c)
def SigSt (c : Dev nD) (n : ℕ) : sProp 𝕄 :=
  iprop(recs m ρ K ∗ (∃ W, owes (c : Thread nD τ) (OS c n) W) ∗ bigSep (fr n) (sigRes c))

theorem one_le {k : Dev nD} (h : k ≠ 0) : 1 ≤ k.val := Nat.one_le_iff_ne_zero.mpr fun e => h (Fin.ext e)
theorem ne_add (c k : Dev nD) (h : k ≠ 0) : c ≠ c + k := fun e => h (by revert c k; decide +kernel)

theorem step_signal (c dst : Dev nD) (k : Dev nD) (h0 : k ≠ 0) (hd : dst = c + k) {Q : PUnit → sProp 𝕄} {P : sProp 𝕄}
    (h : iprop(SigSt m ρ K c (k.val + 1) ∗ P) ⊢ Q ⟨⟩) :
    iprop(SigSt m ρ K c k.val ∗ P) ⊢ bwp c (semSignalWord dst barS 1#32) Q := by
  subst hd
  unfold SigSt at h ⊢
  rw [fr_at]
  unfold bwp semSignalWord sigRes
  iintro ⟨⟨#Hrec, ⟨%W, HO⟩, ⟨Htok, Hpay⟩, Hrest⟩, HP⟩
  iapply (Rounds.wp_signal 𝒱₀ ER (Rd m ρ) (c : Thread nD τ) none (dst := ((c + k : Dev nD) : Thread nD τ)) (κ := K (c + k, none))
      (d := c) (mem_duties m ρ (c + k) none (Finset.mem_erase.mpr ⟨ne_add c k h0, Finset.mem_univ _⟩))
      ((Rd_amount m ρ (c + k) none c).trans (by decide)) () (OS c (k.val + 1)) (OS_step c k.isLt)) $$ [HO Htok Hpay]
  · isplitr; · iapply (recs_inv m ρ K (c + k) none); iexact Hrec
    isplitl [HO]; · iexact HO
    isplitl [Htok]; · iexact Htok
    isplitl [Hpay]; · iapply (show barPay (F := F) (c + k) c ⊢ (Rd (F := F) m ρ).payload (((c + k : Dev nD) : Thread nD τ), .reg barS) 0 c from payload_intro m ρ (c + k) none c); iexact Hpay
    iapply (recs_reached m ρ K (c + k) none); iexact Hrec
  iintro HO
  iapply (fin (Entails.refl _))
  iapply h
  isplitr [HP]
  · isplitr; · iexact Hrec
    isplitl [HO]; · iexists W; iexact HO
    iexact Hrest
  iexact HP

/-! ### Sends -/

def datRes (c k : Dev nD) : sProp 𝕄 :=
  iprop(dutyTok ER (dsend c k) 0 0 ∗ dutyTok ER (drecv (c + k) c) 0 0 ∗ yPts c (c + k) (YB m ρ c) ∗ ∃ f, dPts (c + k) c f)
def maxRes (c k : Dev nD) : sProp 𝕄 :=
  iprop(dutyTok ER (asend c k) 0 0 ∗ dutyTok ER (arecv (c + k) c) 0 0 ∗ sPts m ρ c k ∗ ∃ f, aPts (c + k) c f)
def datSent (c k : Dev nD) : sProp 𝕄 := cred (tallyAt (dsend c k) () ND)
def maxSent (c k : Dev nD) : sProp 𝕄 := cred (tallyAt (asend c k) () NA)
/-- Blocks sent below index `n`, maxima below index `q`. -/
def SendSt (c : Dev nD) (n q : ℕ) : sProp 𝕄 :=
  iprop(recs m ρ K ∗ (∃ W, owes (c : Thread nD τ) (OX c n q) W) ∗ (bigSep (fr n) (datRes m ρ c) ∗ bigSep (dn 1 n) (datSent c))
    ∗ (bigSep (fr q) (maxRes m ρ c) ∗ bigSep (dn 1 q) (maxSent c)))

/-- The rule for a block's transfer, at the protocol's cells. -/
theorem sendD_rule (c k : Dev nD) (h0 : k ≠ 0) (his hid) (sS sR : DmaSem sig) (hS : sS = dmaIx 0 k) (hR : sR = dmaIx 1 c)
    {hsc} {hsrc} {hdst} {hsem} {α : Type} {Q : α → sProp 𝕄} {kk : PUnit → Prog (TpuEff nD τ sig (Elt F) Λ₀ .tc) α}
    (fd : S32x128x64.Idx → Elt F .bf16) (O : CellTallies nD τ sig Unit) (W : Waits sig Unit) :
    iprop(cellInv ER (Rd m ρ) (K (c, some (0, k))) (dsend c k) ∗ cellInv ER (Rd m ρ) (K (c + k, some (1, c))) (drecv (c + k) c)
        ∗ yPts c (c + k) (YB m ρ c) ∗ dPts (c + k) c fd ∗ owes (c : Thread nD τ) (O + tD c k) W
        ∗ dutyTok ER (dsend c k) 0 0 ∗ reached ER (dsend c k) 0 ∗ dutyTok ER (drecv (c + k) c) 0 0 ∗ reached ER (drecv (c + k) c) 0)
      ⊢ iprop(((cred (tallyAt (dsend c k) () ND) ∗ owes (c : Thread nD τ) O W) -∗ bwp c (kk ⟨⟩) Q)
          -∗ bwp c (.op (.enqueueDma (blkD yM ![(c + k).val, 0, 0] his)
      (.remote (Dev.tc (c + k) : Thread nD τ) (blkD dM ![c.val, 0, 0] hid) (.dma sS) hsc) (.dma sR) hsrc hdst hsem) kk) Q) := by
  subst hS hR
  unfold bwp yPts dPts
  rw [← yblk_set (c + k) his, ← dblk_set c hid]
  have h1 : ((blkD yM ![(c + k).val, 0, 0] his).view.loc (c : Thread nD τ) ↦[(blkD yM ![(c + k).val, 0, 0] his).view.set]{fullShare} (YB m ρ c) : sProp 𝕄)
      ⊢ (Rd (F := F) m ρ).payload ((c : Thread nD τ), .dma (dmaIx 0 k)) 0 0 := by
    refine BIBase.Entails.trans ?_ (payload_intro m ρ c (some (0, k)) 0)
    show _ ⊢ yPts c (c + k) (YB m ρ c)
    unfold yPts
    rw [← yblk_set (c + k) his]
  have h2 : ((blkD dM ![c.val, 0, 0] hid).view.loc ((c + k : Dev nD) : Thread nD τ) ↦[(blkD dM ![c.val, 0, 0] hid).view.set]{fullShare}
        (blkD dM ![c.val, 0, 0] hid).view.write (Elt F) fd ((blkD yM ![(c + k).val, 0, 0] his).view.read (Elt F) (YB m ρ c)) Finset.univ : sProp 𝕄)
      ⊢ (Rd (F := F) m ρ).payload (((c + k : Dev nD) : Thread nD τ), .dma (dmaIx 1 c)) 0 0 := by
    refine BIBase.Entails.trans ?_ (payload_intro m ρ (c + k) (some (1, c)) 0)
    show _ ⊢ dPts (c + k) c (DR m ρ (c + k))
    unfold dPts
    rw [← dblk_set c hid]
    exact Entails.of_eq (pointsTo_congr (sent_block m ρ c (c + k) his hid fd))
  have hd₁ : (0 : Dev nD) ∈ (Rd (F := F) m ρ).duties ((c : Thread nD τ), .dma (dmaIx 0 k)) 0 :=
    mem_duties m ρ c (some (0, k)) (by rw [duties_send c (.inl rfl) h0]; exact Finset.mem_singleton_self _)
  have hd₂ : (0 : Dev nD) ∈ (Rd (F := F) m ρ).duties (((c + k : Dev nD) : Thread nD τ), .dma (dmaIx 1 c)) 0 :=
    mem_duties m ρ (c + k) (some (1, c)) (by rw [duties_recv (c + k) (by decide) (ne_add c k h0)]; exact Finset.mem_singleton_self _)
  have hk₁ : (Rd (F := F) m ρ).amount ((c : Thread nD τ), .dma (dmaIx 0 k)) 0 0 = ND := Rd_amount m ρ c (some (0, k)) 0
  have hk₂ : (Rd (F := F) m ρ).amount (((c + k : Dev nD) : Thread nD τ), .dma (dmaIx 1 c)) 0 0 = ND := Rd_amount m ρ (c + k) (some (1, c)) 0
  have hN : (blkD dM ![c.val, 0, 0] hid).view.amount (.dma (dmaIx 1 c)) = ND := rfl
  have hO : O + tD c k = O + tallyAt (((c + k : Dev nD) : Thread nD τ), SemLoc.dma (dmaIx 1 c)) () ND := rfl
  have hr : Topo.routes τ ((c : Dev nD) : Thread nD τ) ((c + k : Dev nD) : Thread nD τ) = true := by routes
  refine Rounds.wp_send_pointsTo (Q := Q) (k := kk) 𝒱₀ ER (Rd m ρ) (c : Thread nD τ) none (hsc := hsc) (hsrc := hsrc) (hdst := hdst) (hsem := hsem) (defs := defs₀ (F := F)) (κ₁ := K (c, some (0, k))) (κ₂ := K (c + k, some (1, c)))
    (r₁ := 0) (r₂ := 0) (d₁ := 0) (d₂ := 0) (fd := fd) hd₁ hd₂ () () ND hN hk₁ hk₂ O hO (W := W) h1 h2 (Es := Set.univ) (hr := hr)

/-- The rule for a maximum's transfer, at the protocol's cells. -/
theorem sendM_rule (c k : Dev nD) (h0 : k ≠ 0) (hid) (sS sR : DmaSem sig) (hS : sS = dmaIx 2 k) (hR : sR = dmaIx 3 c)
    {hsc} {hsrc} {hdst} {hsem} {α : Type} {Q : α → sProp 𝕄} {kk : PUnit → Prog (TpuEff nD τ sig (Elt F) Λ₀ .tc) α}
    (fd : S32x8x128.Idx → Elt F .f32) (O : CellTallies nD τ sig Unit) (W : Waits sig Unit) :
    iprop(cellInv ER (Rd m ρ) (K (c, some (2, k))) (asend c k) ∗ cellInv ER (Rd m ρ) (K (c + k, some (3, c))) (arecv (c + k) c)
        ∗ sPts m ρ c k ∗ aPts (c + k) c fd ∗ owes (c : Thread nD τ) (O + tA c k) W
        ∗ dutyTok ER (asend c k) 0 0 ∗ reached ER (asend c k) 0 ∗ dutyTok ER (arecv (c + k) c) 0 0 ∗ reached ER (arecv (c + k) c) 0)
      ⊢ iprop(((cred (tallyAt (asend c k) () NA) ∗ owes (c : Thread nD τ) O W) -∗ bwp c (kk ⟨⟩) Q)
          -∗ bwp c (.op (.enqueueDma sM
      (.remote (Dev.tc (c + k) : Thread nD τ) (blkA aM ![c.val, 0, 0] hid) (.dma sS) hsc) (.dma sR) hsrc hdst hsem) kk) Q) := by
  subst hS hR
  unfold bwp sPts aPts
  rw [← View.set_whole cc0_scratch2, ← ablk_set c hid]
  have h1 : (sM.view.loc (c : Thread nD τ) ↦[sM.view.set]{mShare k} (AM m ρ c) : sProp 𝕄)
      ⊢ (Rd (F := F) m ρ).payload ((c : Thread nD τ), .dma (dmaIx 2 k)) 0 0 := by
    refine BIBase.Entails.trans ?_ (payload_intro m ρ c (some (2, k)) 0)
    show _ ⊢ sPts m ρ c k
    unfold sPts
    rw [← View.set_whole cc0_scratch2]
  have h2 : ((blkA aM ![c.val, 0, 0] hid).view.loc ((c + k : Dev nD) : Thread nD τ) ↦[(blkA aM ![c.val, 0, 0] hid).view.set]{fullShare}
        (blkA aM ![c.val, 0, 0] hid).view.write (Elt F) fd (sM.view.read (Elt F) (AM m ρ c)) Finset.univ : sProp 𝕄)
      ⊢ (Rd (F := F) m ρ).payload (((c + k : Dev nD) : Thread nD τ), .dma (dmaIx 3 c)) 0 0 := by
    refine BIBase.Entails.trans ?_ (payload_intro m ρ (c + k) (some (3, c)) 0)
    show _ ⊢ aPts (c + k) c (AR m ρ (c + k))
    unfold aPts
    rw [← ablk_set c hid]
    exact Entails.of_eq (pointsTo_congr (sent_max m ρ c (c + k) hid fd))
  have hd₁ : (0 : Dev nD) ∈ (Rd (F := F) m ρ).duties ((c : Thread nD τ), .dma (dmaIx 2 k)) 0 :=
    mem_duties m ρ c (some (2, k)) (by rw [duties_send c (.inr rfl) h0]; exact Finset.mem_singleton_self _)
  have hd₂ : (0 : Dev nD) ∈ (Rd (F := F) m ρ).duties (((c + k : Dev nD) : Thread nD τ), .dma (dmaIx 3 c)) 0 :=
    mem_duties m ρ (c + k) (some (3, c)) (by rw [duties_recv (c + k) (by decide) (ne_add c k h0)]; exact Finset.mem_singleton_self _)
  have hk₁ : (Rd (F := F) m ρ).amount ((c : Thread nD τ), .dma (dmaIx 2 k)) 0 0 = NA := Rd_amount m ρ c (some (2, k)) 0
  have hk₂ : (Rd (F := F) m ρ).amount (((c + k : Dev nD) : Thread nD τ), .dma (dmaIx 3 c)) 0 0 = NA := Rd_amount m ρ (c + k) (some (3, c)) 0
  have hN : (blkA aM ![c.val, 0, 0] hid).view.amount (.dma (dmaIx 3 c)) = NA := rfl
  have hO : O + tA c k = O + tallyAt (((c + k : Dev nD) : Thread nD τ), SemLoc.dma (dmaIx 3 c)) () NA := rfl
  have hr : Topo.routes τ ((c : Dev nD) : Thread nD τ) ((c + k : Dev nD) : Thread nD τ) = true := by routes
  refine Rounds.wp_send_pointsTo (Q := Q) (k := kk) 𝒱₀ ER (Rd m ρ) (c : Thread nD τ) none (hsc := hsc) (hsrc := hsrc) (hdst := hdst) (hsem := hsem) (defs := defs₀ (F := F)) (κ₁ := K (c, some (2, k))) (κ₂ := K (c + k, some (3, c)))
    (r₁ := 0) (r₂ := 0) (d₁ := 0) (d₂ := 0) (fd := fd) hd₁ hd₂ () () NA hN hk₁ hk₂ O hO (W := W) h1 h2 (Es := Set.univ) (hr := hr)

theorem step_sendD (c n k : Dev nD) (h0 : k ≠ 0) (hn : n = c + k) (q : ℕ)
    {offs : Fin 3 → ℕ} (hoffs : offs = ![(c + k).val, 0, 0]) {his}
    {offd : Fin 3 → ℕ} (hoffd : offd = ![c.val, 0, 0]) {hid}
    {off7 : Fin 1 → ℕ} (ho7 : off7 = ![k.val]) {hi7} {off8 : Fin 1 → ℕ} (ho8 : off8 = ![c.val]) {hi8}
    {hsc} {hsrc} {hdst} {hsem} {Q : PUnit → sProp 𝕄} {P : sProp 𝕄}
    (h : iprop(SendSt m ρ K c (k.val + 1) q ∗ P) ⊢ Q ⟨⟩) :
    iprop(SendSt m ρ K c k.val q ∗ P) ⊢ bwp c (Prog.lift (.enqueueDma (blkD yM offs his)
      (.remote (Dev.tc n : Thread nD τ) (blkD dM offd hid) (.dma (semAt cc0_scratch4 off7 hi7)) hsc)
      (.dma (semAt cc0_scratch5 off8 hi8)) hsrc hdst hsem)) Q := by
  subst hn hoffs hoffd ho7 ho8
  unfold SendSt at h ⊢
  rw [fr_at, OX_stepD c k.isLt]
  rw [dn_at _ (one_le h0)] at h
  unfold datRes Prog.lift
  iintro ⟨⟨#Hrec, ⟨%W, HO⟩, ⟨⟨⟨HtS, HtR, Hy, ⟨%fd, Hd⟩⟩, Hrest⟩, Hdone⟩, Hmax⟩, HP⟩
  iapply (sendD_rule m ρ K c k h0 his hid _ _ (semAt_4 k hi7) (semAt_5 c hi8) fd (OX c (k.val + 1) q) W) $$ [HO HtS HtR Hy Hd]
  · isplitr; · iapply (recs_inv m ρ K c (some (0, k))); iexact Hrec
    isplitr; · iapply (recs_inv m ρ K (c + k) (some (1, c))); iexact Hrec
    isplitl [Hy]; · iexact Hy
    isplitl [Hd]; · iexact Hd
    isplitl [HO]; · iexact HO
    isplitl [HtS]; · iexact HtS
    isplitr; · iapply (recs_reached m ρ K c (some (0, k))); iexact Hrec
    isplitl [HtR]; · iexact HtR
    iapply (recs_reached m ρ K (c + k) (some (1, c))); iexact Hrec
  iintro ⟨Hc, HO⟩
  iapply (fin (Entails.refl _))
  iapply h
  isplitr [HP]
  · isplitr; · iexact Hrec
    isplitl [HO]; · iexists W; iexact HO
    isplitr [Hmax]
    · isplitl [Hrest]; · iexact Hrest
      isplitl [Hc]; · unfold datSent; iexact Hc
      iexact Hdone
    iexact Hmax
  iexact HP

theorem step_sendM (c n k : Dev nD) (h0 : k ≠ 0) (hn : n = c + k) (q : ℕ)
    {offd : Fin 3 → ℕ} (hoffd : offd = ![c.val, 0, 0]) {hid}
    {off7 : Fin 1 → ℕ} (ho7 : off7 = ![k.val]) {hi7} {off8 : Fin 1 → ℕ} (ho8 : off8 = ![c.val]) {hi8}
    {hsc} {hsrc} {hdst} {hsem} {Q : PUnit → sProp 𝕄} {P : sProp 𝕄}
    (h : iprop(SendSt m ρ K c q (k.val + 1) ∗ P) ⊢ Q ⟨⟩) :
    iprop(SendSt m ρ K c q k.val ∗ P) ⊢ bwp c (Prog.lift (.enqueueDma (sM)
      (.remote (Dev.tc n : Thread nD τ) (blkA aM offd hid) (.dma (semAt cc0_scratch6 off7 hi7)) hsc)
      (.dma (semAt cc0_scratch7 off8 hi8)) hsrc hdst hsem)) Q := by
  subst hn hoffd ho7 ho8
  unfold SendSt at h ⊢
  rw [fr_at, OX_stepA c q k.isLt]
  rw [dn_at _ (one_le h0)] at h
  unfold maxRes Prog.lift
  iintro ⟨⟨#Hrec, ⟨%W, HO⟩, Hdat, ⟨⟨⟨HtS, HtR, Hy, ⟨%fd, Hd⟩⟩, Hrest⟩, Hdone⟩⟩, HP⟩
  iapply (sendM_rule m ρ K c k h0 hid _ _ (semAt_6 k hi7) (semAt_7 c hi8) fd (OX c q (k.val + 1)) W) $$ [HO HtS HtR Hy Hd]
  · isplitr; · iapply (recs_inv m ρ K c (some (2, k))); iexact Hrec
    isplitr; · iapply (recs_inv m ρ K (c + k) (some (3, c))); iexact Hrec
    isplitl [Hy]; · iexact Hy
    isplitl [Hd]; · iexact Hd
    isplitl [HO]; · iexact HO
    isplitl [HtS]; · iexact HtS
    isplitr; · iapply (recs_reached m ρ K c (some (2, k))); iexact Hrec
    isplitl [HtR]; · iexact HtR
    iapply (recs_reached m ρ K (c + k) (some (3, c))); iexact Hrec
  iintro ⟨Hc, HO⟩
  iapply (fin (Entails.refl _))
  iapply h
  isplitr [HP]
  · isplitr; · iexact Hrec
    isplitl [HO]; · iexists W; iexact HO
    isplitl [Hdat]; · iexact Hdat
    isplitl [Hrest]; · iexact Hrest
    isplitl [Hc]; · unfold maxSent; iexact Hc
    iexact Hdone
  iexact HP

/-! ### Waits -/

/-- The rule for a wait on a cell of one duty: the payload, and the cell's counter at zero. -/
theorem wait_rule (c : Dev nD) (i : Cell) (hi : dutiesOf c i = {0}) (q : DmaSem sig) (hq : csem i = .dma q)
    (N : ℕ) (hN : amountOf i = N) {Pay : sProp 𝕄} (hpay : payOf m ρ c 0 i = Pay)
    {w : TpuEff nD τ sig (Elt F) Λ₀ .tc PUnit} (hw : ∀ G : PUnit → sProp 𝕄, wpE (defs₀ (F := F)) 𝒱₀ (c : Thread nD τ) none Set.univ w G = waitSpec (c : Thread nD τ) Set.univ (.dma q) N G)
    {α : Type} {Q : α → sProp 𝕄} {kk : PUnit → Prog (TpuEff nD τ sig (Elt F) Λ₀ .tc) α} (W : Waits sig Unit) :
    iprop(recs m ρ K ∗ cred (tallyAt (cell c i) () N) ∗ owes (c : Thread nD τ) 0 W ∗ atPos ER (cell c i) 0 ∅ 0)
      ⊢ iprop(((∃ W', owes (c : Thread nD τ) 0 W') -∗ semVal (cell c i) 0 -∗ Pay -∗ bwp c (kk ⟨⟩) Q) -∗ bwp c (.op w kk) Q) := by
  subst hpay
  have hcell : cell c i = ((c : Thread nD τ), SemLoc.dma q) := congrArg (Prod.mk _) hq
  have hexp : 0 + N = (Rd (F := F) m ρ).expect ((c : Thread nD τ), SemLoc.dma q) 0 := by
    rw [← hcell, expect_one m ρ c i hi, hN, Nat.zero_add]
  have hrest := rest_one m ρ c i hi
  have hinv := recs_inv m ρ K c i
  rw [hcell] at hrest hinv ⊢
  have hclose := Rounds.cell_close ER (Rd (F := F) m ρ) (g := ((c : Thread nD τ), SemLoc.dma q)) (κ := K (c, i)) (Set.mem_univ (K (c, i))) (fun h => h)
    (R := 1) (Rd_later m ρ _)
  unfold bwp
  iintro ⟨#Hrec, Hc, HO, Hat⟩ Hk
  iapply (Rounds.wp_wait_rest_token 𝒱₀ ER (Rd m ρ) (c : Thread nD τ) none (κ := K (c, i)) (k := kk) (Q := Q)
      hw (Set.mem_univ _) () (O := 0) (W := W) (R := 0) (m := 0) (T := ∅) hexp) $$ [Hc HO Hat]
  · isplitr; · iapply hinv; iexact Hrec
    isplitl [Hc]; · iexact Hc
    isplitl [HO]; · iexact HO
    isplitr; · rw [MayWait_zero]; iempintro
    iexact Hat
  iintro ⟨HO, Hat, -, Hpay⟩
  ihave Hp := (Entails.of_eq hrest) $$ Hpay
  imod hclose $$ [Hat] with Hv
  · isplitr; · iapply hinv; iexact Hrec
    iexact Hat
  ispecialize Hk $$ [HO]
  · iexists _; iexact HO
  ispecialize Hk $$ Hv
  iapply Hk $$ Hp

end Cert.KernelIdeal.Run

end
-- ==== Proof.KernelIdeal.Waits.lean ====
/-
# The waits

The barrier wait, which hands a device the thirty-one places it writes; the wait for entry `p` of what it receives,
skipped when `p` is the device itself; the waits for its own sends; and the closing of every cell at zero.
-/
module

public import proofs.«01_k».proof.Proof.KernelIdeal.Steps

@[expose] public section

set_option maxRecDepth 4000

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Cell → ℕ)

/-! ### The barrier wait -/

/-- The tokens of the transfers at index `k`. -/
def toks (c k : Dev nD) : sProp 𝕄 :=
  iprop((dutyTok ER (dsend c k) 0 0 ∗ dutyTok ER (drecv (c + k) c) 0 0) ∗ (dutyTok ER (asend c k) 0 0 ∗ dutyTok ER (arecv (c + k) c) 0 0))

/-- The indices other than 0, from the devices other than `c`. -/
def rot (c : Dev nD) : Dev nD ≃ Dev nD :=
  ⟨fun k => c + k, fun d => d - c, by revert c; decide +kernel, by revert c; decide +kernel⟩
theorem erase_eq : ∀ c : Dev nD, (Finset.univ.erase c : Finset (Dev nD)) = (fr 1).map (rot c).toEmbedding := by decide +kernel

theorem barPays (c : Dev nD) : bigSep (Finset.univ.erase c) (fun d => barPay (F := F) c d) = bigSep (fr 1) (fun k => barPay (F := F) c (c + k)) := by
  rw [erase_eq, bigSep_map]; rfl

theorem step_bar (c : Dev nD) {Q : PUnit → sProp 𝕄} {P : sProp 𝕄}
    (h : iprop(SendSt m ρ K c 1 1 ∗ semVal (bar c) 0 ∗ P) ⊢ Q ⟨⟩) :
    iprop(SigSt m ρ K c 32 ∗ (cred (tallyAt (bar c) () 31) ∗ atPos ER (bar c) 0 ∅ 0 ∗ levAts L lv ∗ bigSep (fr 1) (toks c)
        ∗ bigSep (fr 1) (fun k => yPts c (c + k) (YB m ρ c)) ∗ bigSep (fr 1) (sPts m ρ c)) ∗ P)
      ⊢ bwp c (semWaitWord barS 31#32) Q := by
  have hexp : 0 + 31 = (Rd (F := F) m ρ).expect ((c : Thread nD τ), SemLoc.reg barS) 0 := (expect_bar m ρ c).symm
  have hrest : bigSep ((Rd (F := F) m ρ).duties ((c : Thread nD τ), SemLoc.reg barS) 0 \ ∅) (fun d => (Rd (F := F) m ρ).payload ((c : Thread nD τ), SemLoc.reg barS) 0 d)
      = bigSep (fr 1) (fun k => barPay (F := F) c (c + k)) := (rest_bar m ρ c).trans (barPays c)
  have hinv : recs m ρ K ⊢ cellInv ER (Rd m ρ) (K (c, none)) ((c : Thread nD τ), SemLoc.reg barS) := recs_inv m ρ K c none
  have hclose := Rounds.cell_close ER (Rd (F := F) m ρ) (g := ((c : Thread nD τ), SemLoc.reg barS)) (κ := K (c, none)) (Set.mem_univ (K (c, none))) (fun h => h)
    (R := 1) (Rd_later m ρ _)
  unfold SigSt bwp semWaitWord
  rw [OS_end]
  iintro ⟨⟨#Hrec, ⟨%W, HO⟩, -⟩, ⟨Hc, Hat, #Hlev, Htok, Hy, Hs⟩, HP⟩
  iapply (Rounds.wp_wait_rest_token 𝒱₀ ER (Rd m ρ) (c : Thread nD τ) none (κ := K (c, none)) (Q := Q)
      (wpE_semWait_eq 𝒱₀ (c : Thread nD τ) none Set.univ) (Set.mem_univ _) () (O := OX c 1 1) (W := W) (R := 0) (m := 0) (T := ∅) hexp) $$ [Hc HO Hat]
  · isplitr; · iapply hinv; iexact Hrec
    isplitl [Hc]; · iexact Hc
    isplitl [HO]; · iexact HO
    isplitr; · iapply (mayWait_bar c); iexact Hlev
    iexact Hat
  iintro ⟨HO, Hat, -, Hpay⟩
  ihave Hp := (Entails.of_eq hrest) $$ Hpay
  imod hclose $$ [Hat] with Hv
  · isplitr; · iapply hinv; iexact Hrec
    iexact Hat
  iapply (fin (Entails.refl _))
  iapply h
  isplitr [Hv HP]
  · unfold SendSt
    isplitr; · iexact Hrec
    isplitl [HO]; · iexists _; iexact HO
    ihave Hall := (show iprop(bigSep (fr 1) (toks (F := F) c) ∗ bigSep (fr 1) (fun k => yPts c (c + k) (YB m ρ c)) ∗ bigSep (fr 1) (sPts m ρ c) ∗ bigSep (fr 1) (fun k => barPay (F := F) c (c + k)))
        ⊢ iprop(bigSep (fr 1) (datRes m ρ c) ∗ bigSep (fr 1) (maxRes m ρ c)) from by
      rw [← bigSep_sep', ← bigSep_sep', ← bigSep_sep', ← bigSep_sep']
      refine bigSep_mono fun k _ => ?_
      show toks (F := F) c k ∗ yPts c (c + k) (YB m ρ c) ∗ sPts m ρ c k ∗ barPay (F := F) c (c + k) ⊢ datRes m ρ c k ∗ maxRes m ρ c k
      unfold toks datRes maxRes barPay
      iintro ⟨⟨⟨H1, H2⟩, ⟨H3, H4⟩⟩, Hy, Hs, Hd, Ha⟩
      isplitl [H1 H2 Hy Hd]
      · isplitl [H1]; · iexact H1
        isplitl [H2]; · iexact H2
        isplitl [Hy]; · iexact Hy
        iexact Hd
      · isplitl [H3]; · iexact H3
        isplitl [H4]; · iexact H4
        isplitl [Hs]; · iexact Hs
        iexact Ha) $$ [Htok Hy Hs Hp]
    · isplitl [Htok]; · iexact Htok
      isplitl [Hy]; · iexact Hy
      isplitl [Hs]; · iexact Hs
      iexact Hp
    icases Hall with ⟨Hd, Hm⟩
    rw [dn_self, bigSep_empty, bigSep_empty]
    isplitl [Hd]
    · isplitl [Hd]; · iexact Hd
      iempintro
    · isplitl [Hm]; · iexact Hm
      iempintro
  isplitl [Hv]; · iexact Hv
  iexact HP

/-! ### Receives -/

def recvRes (c p : Dev nD) : sProp 𝕄 :=
  iprop(atPos ER (drecv c p) 0 ∅ 0 ∗ atPos ER (arecv c p) 0 ∅ 0
    ∗ if p = c then iprop(dPts c c (DR m ρ c) ∗ aPts c c (AR m ρ c)) else iprop(cred (tallyAt (drecv c p) () ND) ∗ cred (tallyAt (arecv c p) () NA)))
def recvDone (c p : Dev nD) : sProp 𝕄 :=
  iprop((semVal (drecv c p) 0 ∗ semVal (arecv c p) 0) ∗ dPts c p (DR m ρ c) ∗ aPts c p (AR m ρ c))
/-- The entries below `n` received. -/
def RecvSt (c : Dev nD) (n : ℕ) : sProp 𝕄 :=
  iprop(recs m ρ K ∗ (∃ W, owes (c : Thread nD τ) 0 W) ∗ bigSep (fr n) (recvRes m ρ c) ∗ bigSep (dn 0 n) (recvDone m ρ c))

/-- A cell nothing was ever due on closes at zero. -/
theorem close_idle (c : Dev nD) (i : Cell) (hi : dutiesOf c i = ∅) :
    iprop(recs m ρ K ∗ atPos ER (cell c i) 0 ∅ 0) ⊢ |={Set.univ}=> semVal (cell c i) 0 :=
  (sep_mono_left (recs_inv m ρ K c i)).trans
    (Rounds.cell_close ER (Rd (F := F) m ρ) (Set.mem_univ _) (fun h => h) fun r _ => by
      rcases Nat.eq_zero_or_pos r with rfl | hr
      · rw [Rd_duties, hi]
      · exact Rd_later m ρ _ r hr)

theorem step_recv (c p : Dev nD) {b : BitVec 1} [Decidable (b = 1#1)] (hb : b = 1#1 ↔ p ≠ c)
    {off8 : Fin 1 → ℕ} (ho8 : off8 = ![p.val]) {hi8} {off10 : Fin 1 → ℕ} (ho10 : off10 = ![p.val]) {hi10}
    {src dst : Memref sig .tc .vmem S128x64 .bf16} {src' dst' : Memref sig .tc .vmem S8x128 .f32}
    (hd : dst.view.dmaCredit = ND) (hd' : dst'.view.dmaCredit = NA) {e1 e2 e3 e4}
    {α : Type} {rest : Prog (TpuEff nD τ sig (Elt F) Λ₀ .tc) α} {Q : α → sProp 𝕄} {P : sProp 𝕄}
    (h : iprop(RecvSt m ρ K c (p.val + 1) ∗ P) ⊢ bwp c rest Q) :
    iprop(RecvSt m ρ K c p.val ∗ P) ⊢ bwp c (if h : b = 1#1 then
      Prog.lift (.waitDma2 (semAt cc0_scratch5 off8 hi8) src dst e1 e2) >>= fun _ =>
        Prog.lift (.waitDma2 (semAt cc0_scratch7 off10 hi10) src' dst' e3 e4) >>= fun _ => rest
      else rest) Q := by
  subst ho8 ho10
  unfold RecvSt at h ⊢
  rw [fr_at]
  rw [dn_at _ (Nat.zero_le _)] at h
  by_cases hp : p = c
  · rw [dif_neg fun e => (hb.mp e) hp]
    unfold recvRes
    rw [if_pos hp]
    subst hp
    iintro ⟨⟨#Hrec, HO, ⟨⟨Hat, Hat', Hd, Ha⟩, Hrest⟩, Hdone⟩, HP⟩
    unfold bwp
    rw [← fupd_wp_eq]
    imod (close_idle m ρ K p (some (1, p)) (duties_recv0 p (by decide))) $$ [Hat] with Hv
    · isplitr; · iexact Hrec
      iexact Hat
    imod (close_idle m ρ K p (some (3, p)) (duties_recv0 p (by decide))) $$ [Hat'] with Hv'
    · isplitr; · iexact Hrec
      iexact Hat'
    imodintro
    iapply h
    isplitr [HP]
    · isplitr; · iexact Hrec
      isplitl [HO]; · iexact HO
      isplitl [Hrest]; · iexact Hrest
      isplitr [Hdone]
      · unfold recvDone
        isplitl [Hv Hv']
        · isplitl [Hv]; · iexact Hv
          iexact Hv'
        isplitl [Hd]; · iexact Hd
        iexact Ha
      iexact Hdone
    iexact HP
  · rw [dif_pos (hb.mpr hp)]
    unfold recvRes
    rw [if_neg hp]
    have hw1 : ∀ G : PUnit → sProp 𝕄, wpE (defs₀ (F := F)) 𝒱₀ (c : Thread nD τ) none Set.univ (.waitDma2 (semAt cc0_scratch5 ![p.val] hi8) src dst e1 e2) G
        = waitSpec (c : Thread nD τ) Set.univ (.dma (semAt cc0_scratch5 ![p.val] hi8)) ND G := by
      rw [← hd]; exact wpE_waitDma2_eq 𝒱₀ (c : Thread nD τ) none Set.univ
    have hw2 : ∀ G : PUnit → sProp 𝕄, wpE (defs₀ (F := F)) 𝒱₀ (c : Thread nD τ) none Set.univ (.waitDma2 (semAt cc0_scratch7 ![p.val] hi10) src' dst' e3 e4) G
        = waitSpec (c : Thread nD τ) Set.univ (.dma (semAt cc0_scratch7 ![p.val] hi10)) NA G := by
      rw [← hd']; exact wpE_waitDma2_eq 𝒱₀ (c : Thread nD τ) none Set.univ
    have h1 : csem (some (1, p)) = .dma (semAt cc0_scratch5 ![p.val] hi8) := congrArg SemLoc.dma (semAt_5 p hi8).symm
    have h2 : csem (some (3, p)) = .dma (semAt cc0_scratch7 ![p.val] hi10) := congrArg SemLoc.dma (semAt_7 p hi10).symm
    iintro ⟨⟨#Hrec, ⟨%W, HO⟩, ⟨⟨Hat, Hat', Hc, Hc'⟩, Hrest⟩, Hdone⟩, HP⟩
    iapply (wait_rule m ρ K c (Pay := dPts c p (DR m ρ c)) (some (1, p)) (duties_recv c (by decide) hp) _ h1 ND rfl rfl hw1 W) $$ [Hc HO Hat]
    · isplitr; · iexact Hrec
      isplitl [Hc]; · iexact Hc
      isplitl [HO]; · iexact HO
      iexact Hat
    iintro ⟨%W', HO⟩ Hv Hd
    iapply (wait_rule m ρ K c (Pay := aPts c p (AR m ρ c)) (some (3, p)) (duties_recv c (by decide) hp) _ h2 NA rfl rfl hw2 W') $$ [Hc' HO Hat']
    · isplitr; · iexact Hrec
      isplitl [Hc']; · iexact Hc'
      isplitl [HO]; · iexact HO
      iexact Hat'
    iintro HO Hv' Ha
    iapply h
    isplitr [HP]
    · isplitr; · iexact Hrec
      isplitl [HO]; · iexact HO
      isplitl [Hrest]; · iexact Hrest
      isplitr [Hdone]
      · unfold recvDone
        isplitl [Hv Hv']
        · isplitl [Hv]; · iexact Hv
          iexact Hv'
        isplitl [Hd]; · iexact Hd
        iexact Ha
      iexact Hdone
    iexact HP

/-! ### Waits on the sends -/

def datWait (c k : Dev nD) : sProp 𝕄 := iprop(atPos ER (dsend c k) 0 ∅ 0 ∗ cred (tallyAt (dsend c k) () ND))
def datDone (c k : Dev nD) : sProp 𝕄 := iprop(semVal (dsend c k) 0 ∗ yPts c (c + k) (YB m ρ c))
def maxWait (c k : Dev nD) : sProp 𝕄 := iprop(atPos ER (asend c k) 0 ∅ 0 ∗ cred (tallyAt (asend c k) () NA))
def maxDone (c k : Dev nD) : sProp 𝕄 := iprop(semVal (asend c k) 0 ∗ sPts m ρ c k)
/-- The sends of blocks below `n` waited for, of maxima below `q`. -/
def WaitSt (c : Dev nD) (n q : ℕ) : sProp 𝕄 :=
  iprop(recs m ρ K ∗ (∃ W, owes (c : Thread nD τ) 0 W) ∗ (bigSep (fr n) (datWait c) ∗ bigSep (dn 1 n) (datDone m ρ c))
    ∗ (bigSep (fr q) (maxWait c) ∗ bigSep (dn 1 q) (maxDone m ρ c)))

theorem step_waitD (c k : Dev nD) (h0 : k ≠ 0) (q : ℕ) {off : Fin 1 → ℕ} (ho : off = ![k.val]) {hi}
    {src dst : Memref sig .tc .vmem S128x64 .bf16} (hd : dst.view.dmaCredit = ND) {e1 e2} {Q : PUnit → sProp 𝕄} {P : sProp 𝕄}
    (h : iprop(WaitSt m ρ K c (k.val + 1) q ∗ P) ⊢ Q ⟨⟩) :
    iprop(WaitSt m ρ K c k.val q ∗ P) ⊢ bwp c (Prog.lift (.waitDma2 (semAt cc0_scratch4 off hi) src dst e1 e2)) Q := by
  subst ho
  unfold WaitSt at h ⊢
  rw [fr_at]
  rw [dn_at _ (one_le h0)] at h
  unfold datWait
  have hw : ∀ G : PUnit → sProp 𝕄, wpE (defs₀ (F := F)) 𝒱₀ (c : Thread nD τ) none Set.univ (.waitDma2 (semAt cc0_scratch4 ![k.val] hi) src dst e1 e2) G
      = waitSpec (c : Thread nD τ) Set.univ (.dma (semAt cc0_scratch4 ![k.val] hi)) ND G := by
    rw [← hd]; exact wpE_waitDma2_eq 𝒱₀ (c : Thread nD τ) none Set.univ
  have h1 : csem (some (0, k)) = .dma (semAt cc0_scratch4 ![k.val] hi) := congrArg SemLoc.dma (semAt_4 k hi).symm
  iintro ⟨⟨#Hrec, ⟨%W, HO⟩, ⟨⟨⟨Hat, Hc⟩, Hrest⟩, Hdone⟩, Hmax⟩, HP⟩
  iapply (wait_rule m ρ K c (Pay := yPts c (c + k) (YB m ρ c)) (some (0, k)) (duties_send c (.inl rfl) h0) _ h1 ND rfl rfl hw W) $$ [Hc HO Hat]
  · isplitr; · iexact Hrec
    isplitl [Hc]; · iexact Hc
    isplitl [HO]; · iexact HO
    iexact Hat
  iintro HO Hv Hy
  iapply (fin (Entails.refl _))
  iapply h
  isplitr [HP]
  · isplitr; · iexact Hrec
    isplitl [HO]; · iexact HO
    isplitr [Hmax]
    · isplitl [Hrest]; · iexact Hrest
      isplitr [Hdone]
      · unfold datDone
        isplitl [Hv]; · iexact Hv
        iexact Hy
      iexact Hdone
    iexact Hmax
  iexact HP

theorem step_waitM (c k : Dev nD) (h0 : k ≠ 0) (n : ℕ) {off : Fin 1 → ℕ} (ho : off = ![k.val]) {hi}
    {src dst : Memref sig .tc .vmem S8x128 .f32} (hd : dst.view.dmaCredit = NA) {e1 e2} {Q : PUnit → sProp 𝕄} {P : sProp 𝕄}
    (h : iprop(WaitSt m ρ K c n (k.val + 1) ∗ P) ⊢ Q ⟨⟩) :
    iprop(WaitSt m ρ K c n k.val ∗ P) ⊢ bwp c (Prog.lift (.waitDma2 (semAt cc0_scratch6 off hi) src dst e1 e2)) Q := by
  subst ho
  unfold WaitSt at h ⊢
  rw [fr_at]
  rw [dn_at _ (one_le h0)] at h
  unfold maxWait
  have hw : ∀ G : PUnit → sProp 𝕄, wpE (defs₀ (F := F)) 𝒱₀ (c : Thread nD τ) none Set.univ (.waitDma2 (semAt cc0_scratch6 ![k.val] hi) src dst e1 e2) G
      = waitSpec (c : Thread nD τ) Set.univ (.dma (semAt cc0_scratch6 ![k.val] hi)) NA G := by
    rw [← hd]; exact wpE_waitDma2_eq 𝒱₀ (c : Thread nD τ) none Set.univ
  have h1 : csem (some (2, k)) = .dma (semAt cc0_scratch6 ![k.val] hi) := congrArg SemLoc.dma (semAt_6 k hi).symm
  iintro ⟨⟨#Hrec, ⟨%W, HO⟩, Hdat, ⟨⟨⟨Hat, Hc⟩, Hrest⟩, Hdone⟩⟩, HP⟩
  iapply (wait_rule m ρ K c (Pay := sPts m ρ c k) (some (2, k)) (duties_send c (.inr rfl) h0) _ h1 NA rfl rfl hw W) $$ [Hc HO Hat]
  · isplitr; · iexact Hrec
    isplitl [Hc]; · iexact Hc
    isplitl [HO]; · iexact HO
    iexact Hat
  iintro HO Hv Hy
  iapply (fin (Entails.refl _))
  iapply h
  isplitr [HP]
  · isplitr; · iexact Hrec
    isplitl [HO]; · iexact HO
    isplitl [Hdat]; · iexact Hdat
    isplitl [Hrest]; · iexact Hrest
    isplitr [Hdone]
    · unfold maxDone
      isplitl [Hv]; · iexact Hv
      iexact Hy
    iexact Hdone
  iexact HP

end Cert.KernelIdeal.Run

end
-- ==== Proof.KernelIdeal.Sends.lean ====
/-
# The signals and the sends

The parts of the program that signal the other devices and start the sixty-two transfers.
-/
module

public import proofs.«01_k».proof.Proof.KernelIdeal.Waits

@[expose] public section

set_option maxRecDepth 4000

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg}

variable {K : Dev nD × Cell → ℕ}

/-! ### The steps at the program's own names of places and devices -/

theorem off5_eq (c k : Dev nD) (h : k ≠ 0) : k0_off5 c (BitVec.ofNat 32 k.val) = ![(c + k).val, 0, 0] := by
  have hk : k.val - 1 < 31 := by have h1 := one_le h; have h2 : k.val < 32 := k.isLt; omega
  have e := k0_off5_eq c ⟨k.val - 1, hk⟩
  have e1 : 1 + (k.val - 1) = k.val := by have h1 := one_le h; omega
  have e2 : (c.val + (k.val - 1) + 1) % 32 = (c + k).val := by
    rw [Fin.val_add]; congr 1; have h1 := one_le h; omega
  rw [e1, e2] at e
  exact e

variable {c : Dev nD}

theorem ne_zero {k : ℕ} {hk : k < nD} (h0 : k ≠ 0) : (⟨k, hk⟩ : Dev nD) ≠ 0 := fun e => h0 (congrArg Fin.val e)

theorem signal {Q : PUnit → sProp 𝕄} {P : sProp 𝕄} (k : ℕ) {n : ℕ} {hn : n < nD} (hd : n = (c.val + k) % 32)
    (hk : k < nD := by decide) (h0 : k ≠ 0 := by decide)
    (h : iprop(SigSt m ρ K c (k + 1) ∗ P) ⊢ Q ⟨⟩) :
    iprop(SigSt m ρ K c k ∗ P) ⊢ bwp c (semSignalWord (⟨n, hn⟩ : Dev nD) barS 1#32) Q :=
  step_signal m ρ K c ⟨n, hn⟩ ⟨k, hk⟩ (ne_zero h0) (Fin.ext hd) h

theorem sendD {Q : PUnit → sProp 𝕄} {P : sProp 𝕄} (k : ℕ) {n : ℕ} {hn : n < nD} (hd : n = (c.val + k) % 32)
    (hk : k < nD := by decide) (h0 : k ≠ 0 := by decide) {q : ℕ}
    {his hid hi7 hi8 hsc hsrc hdst hsem}
    (h : iprop(SendSt m ρ K c (k + 1) q ∗ P) ⊢ Q ⟨⟩) :
    iprop(SendSt m ρ K c k q ∗ P) ⊢ bwp c (Prog.lift (.enqueueDma (blkD yM (k0_off5 c (BitVec.ofNat 32 k)) his)
      (.remote (Dev.tc (⟨n, hn⟩ : Dev nD) : Thread nD τ) (blkD dM (k0_off4 c) hid) (.dma (semAt cc0_scratch4 ![k] hi7)) hsc)
      (.dma (semAt cc0_scratch5 (k0_off3 c) hi8)) hsrc hdst hsem)) Q :=
  step_sendD m ρ K c ⟨n, hn⟩ ⟨k, hk⟩ (ne_zero h0) (Fin.ext hd) q (off5_eq c ⟨k, hk⟩ (ne_zero h0)) (k0_off4_eq c) rfl (k0_off3_eq c) h

theorem sendM {Q : PUnit → sProp 𝕄} {P : sProp 𝕄} (k : ℕ) {n : ℕ} {hn : n < nD} (hd : n = (c.val + k) % 32)
    (hk : k < nD := by decide) (h0 : k ≠ 0 := by decide) {q : ℕ}
    {hid hi7 hi8 hsc hsrc hdst hsem}
    (h : iprop(SendSt m ρ K c q (k + 1) ∗ P) ⊢ Q ⟨⟩) :
    iprop(SendSt m ρ K c q k ∗ P) ⊢ bwp c (Prog.lift (.enqueueDma sM
      (.remote (Dev.tc (⟨n, hn⟩ : Dev nD) : Thread nD τ) (blkA aM (k0_off6 c) hid) (.dma (semAt cc0_scratch6 ![k] hi7)) hsc)
      (.dma (semAt cc0_scratch7 (k0_off3 c) hi8)) hsrc hdst hsem)) Q :=
  step_sendM m ρ K c ⟨n, hn⟩ ⟨k, hk⟩ (ne_zero h0) (Fin.ext hd) q (k0_off6_eq c) rfl (k0_off3_eq c) h

/-! ### The parts of the program that signal -/

theorem part8 {Q : BitVec 32 → sProp 𝕄} {P : sProp 𝕄} {v a} (h : ∀ r, iprop(SigSt m ρ K c 9 ∗ P) ⊢ Q r) : iprop(SigSt m ρ K c 3 ∗ P)
    ⊢ bwp c (k0_part8 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c v (SemArray.scalar (sig.barrier 0 rfl)) a) Q := by
  rw [k0_part8_eq_skeleton]; unfold k0_part8_skel
  refine seq (signal 3 (k0_dev3_eq c) (h := ?_))
  refine seq (signal 4 (k0_dev4_eq c) (h := ?_))
  refine seq (signal 5 (k0_dev5_eq c) (h := ?_))
  refine seq (signal 6 (k0_dev6_eq c) (h := ?_))
  refine seq (signal 7 (k0_dev7_eq c) (h := ?_))
  refine seq (signal 8 (k0_dev8_eq c) (h := ?_))
  exact fin (h _)

theorem part9 {Q : BitVec 32 → sProp 𝕄} {P : sProp 𝕄} {v a} (h : ∀ r, iprop(SigSt m ρ K c 15 ∗ P) ⊢ Q r) : iprop(SigSt m ρ K c 9 ∗ P)
    ⊢ bwp c (k0_part9 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c v (SemArray.scalar (sig.barrier 0 rfl)) a) Q := by
  rw [k0_part9_eq_skeleton]; unfold k0_part9_skel
  refine seq (signal 9 (k0_dev9_eq c) (h := ?_))
  refine seq (signal 10 (k0_dev10_eq c) (h := ?_))
  refine seq (signal 11 (k0_dev11_eq c) (h := ?_))
  refine seq (signal 12 (k0_dev12_eq c) (h := ?_))
  refine seq (signal 13 (k0_dev13_eq c) (h := ?_))
  refine seq (signal 14 (k0_dev14_eq c) (h := ?_))
  exact fin (h _)

theorem part10 {Q : BitVec 32 → sProp 𝕄} {P : sProp 𝕄} {v a} (h : ∀ r, iprop(SigSt m ρ K c 21 ∗ P) ⊢ Q r) : iprop(SigSt m ρ K c 15 ∗ P)
    ⊢ bwp c (k0_part10 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c v (SemArray.scalar (sig.barrier 0 rfl)) a) Q := by
  rw [k0_part10_eq_skeleton]; unfold k0_part10_skel
  refine seq (signal 15 (k0_dev15_eq c) (h := ?_))
  refine seq (signal 16 (k0_dev16_eq c) (h := ?_))
  refine seq (signal 17 (k0_dev17_eq c) (h := ?_))
  refine seq (signal 18 (k0_dev18_eq c) (h := ?_))
  refine seq (signal 19 (k0_dev19_eq c) (h := ?_))
  refine seq (signal 20 (k0_dev20_eq c) (h := ?_))
  exact fin (h _)

theorem part11 {Q : BitVec 32 → sProp 𝕄} {P : sProp 𝕄} {v a} (h : ∀ r, iprop(SigSt m ρ K c 27 ∗ P) ⊢ Q r) : iprop(SigSt m ρ K c 21 ∗ P)
    ⊢ bwp c (k0_part11 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c v (SemArray.scalar (sig.barrier 0 rfl)) a) Q := by
  rw [k0_part11_eq_skeleton]; unfold k0_part11_skel
  refine seq (signal 21 (k0_dev21_eq c) (h := ?_))
  refine seq (signal 22 (k0_dev22_eq c) (h := ?_))
  refine seq (signal 23 (k0_dev23_eq c) (h := ?_))
  refine seq (signal 24 (k0_dev24_eq c) (h := ?_))
  refine seq (signal 25 (k0_dev25_eq c) (h := ?_))
  refine seq (signal 26 (k0_dev26_eq c) (h := ?_))
  exact fin (h _)

theorem part12 {Q : (Σ' (_ : BitVec 32) (_ : BitVec 32), BitVec 32) → sProp 𝕄} {P : sProp 𝕄} {v a} (h : ∀ r, iprop(SendSt m ρ K c 1 1 ∗ semVal (bar c) 0 ∗ P) ⊢ Q r) : iprop(SigSt m ρ K c 27 ∗ (cred (tallyAt (bar c) () 31) ∗ atPos ER (bar c) 0 ∅ 0 ∗ levAts L lv ∗ bigSep (fr 1) (toks c)
        ∗ bigSep (fr 1) (fun k => yPts c (c + k) (YB m ρ c)) ∗ bigSep (fr 1) (sPts m ρ c)) ∗ P)
    ⊢ bwp c (k0_part12 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c v (SemArray.scalar (sig.barrier 0 rfl)) a) Q := by
  rw [k0_part12_eq_skeleton]; unfold k0_part12_skel
  refine seq (signal 27 (k0_dev27_eq c) (h := ?_))
  refine seq (signal 28 (k0_dev28_eq c) (h := ?_))
  refine seq (signal 29 (k0_dev29_eq c) (h := ?_))
  refine seq (signal 30 (k0_dev30_eq c) (h := ?_))
  refine seq (signal 31 (k0_dev31_eq c) (h := ?_))
  refine seq (step_bar m ρ K c ?_)
  exact fin (h _)

/-! ### The parts that send -/

theorem part13 {Q : PUnit → sProp 𝕄} {P : sProp 𝕄} {v x y z} (h : ∀ r, iprop(SendSt m ρ K c 3 2 ∗ P) ⊢ Q r) : iprop(SendSt m ρ K c 1 1 ∗ P)
    ⊢ bwp c (k0_part13 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c v x y z) Q := by
  rw [k0_part13_eq_skeleton]; unfold k0_part13_skel
  refine seq (sendD 1 (k0_dev32_eq c) (h := ?_))
  refine seq (sendM 1 (k0_dev33_eq c) (h := ?_))
  refine seq (sendD 2 (k0_dev34_eq c) (h := ?_))
  exact fin (h _)

theorem part14 {Q : BitVec 32 → sProp 𝕄} {P : sProp 𝕄} {v} (h : ∀ r, iprop(SendSt m ρ K c 4 4 ∗ P) ⊢ Q r) : iprop(SendSt m ρ K c 3 2 ∗ P)
    ⊢ bwp c (k0_part14 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c v) Q := by
  rw [k0_part14_eq_skeleton]; unfold k0_part14_skel
  refine seq (sendM 2 (k0_dev35_eq c) (h := ?_))
  refine seq (sendD 3 (k0_dev36_eq c) (h := ?_))
  refine seq (sendM 3 (k0_dev37_eq c) (h := ?_))
  exact fin (h _)

theorem part15 {Q : (Σ' (_ : BitVec 32) (_ : BitVec 32), BitVec 32) → sProp 𝕄} {P : sProp 𝕄} {v x} (h : ∀ r, iprop(SendSt m ρ K c 6 6 ∗ P) ⊢ Q r) : iprop(SendSt m ρ K c 4 4 ∗ P)
    ⊢ bwp c (k0_part15 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c v x) Q := by
  rw [k0_part15_eq_skeleton]; unfold k0_part15_skel
  refine seq (sendD 4 (k0_dev38_eq c) (h := ?_))
  refine seq (sendM 4 (k0_dev39_eq c) (h := ?_))
  refine seq (sendD 5 (k0_dev40_eq c) (h := ?_))
  refine seq (sendM 5 (k0_dev41_eq c) (h := ?_))
  exact fin (h _)

theorem part16 {Q : PUnit → sProp 𝕄} {P : sProp 𝕄} {v x y z} (h : ∀ r, iprop(SendSt m ρ K c 8 7 ∗ P) ⊢ Q r) : iprop(SendSt m ρ K c 6 6 ∗ P)
    ⊢ bwp c (k0_part16 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c v x y z) Q := by
  rw [k0_part16_eq_skeleton]; unfold k0_part16_skel
  refine seq (sendD 6 (k0_dev42_eq c) (h := ?_))
  refine seq (sendM 6 (k0_dev43_eq c) (h := ?_))
  refine seq (sendD 7 (k0_dev44_eq c) (h := ?_))
  exact fin (h _)

theorem part17 {Q : BitVec 32 → sProp 𝕄} {P : sProp 𝕄} {v} (h : ∀ r, iprop(SendSt m ρ K c 9 9 ∗ P) ⊢ Q r) : iprop(SendSt m ρ K c 8 7 ∗ P)
    ⊢ bwp c (k0_part17 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c v) Q := by
  rw [k0_part17_eq_skeleton]; unfold k0_part17_skel
  refine seq (sendM 7 (k0_dev45_eq c) (h := ?_))
  refine seq (sendD 8 (k0_dev46_eq c) (h := ?_))
  refine seq (sendM 8 (k0_dev47_eq c) (h := ?_))
  exact fin (h _)

theorem part18 {Q : (Σ' (_ : BitVec 32) (_ : BitVec 32), BitVec 32) → sProp 𝕄} {P : sProp 𝕄} {v x} (h : ∀ r, iprop(SendSt m ρ K c 11 11 ∗ P) ⊢ Q r) : iprop(SendSt m ρ K c 9 9 ∗ P)
    ⊢ bwp c (k0_part18 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c v x) Q := by
  rw [k0_part18_eq_skeleton]; unfold k0_part18_skel
  refine seq (sendD 9 (k0_dev48_eq c) (h := ?_))
  refine seq (sendM 9 (k0_dev49_eq c) (h := ?_))
  refine seq (sendD 10 (k0_dev50_eq c) (h := ?_))
  refine seq (sendM 10 (k0_dev51_eq c) (h := ?_))
  exact fin (h _)

theorem part19 {Q : PUnit → sProp 𝕄} {P : sProp 𝕄} {v x y z} (h : ∀ r, iprop(SendSt m ρ K c 13 12 ∗ P) ⊢ Q r) : iprop(SendSt m ρ K c 11 11 ∗ P)
    ⊢ bwp c (k0_part19 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c v x y z) Q := by
  rw [k0_part19_eq_skeleton]; unfold k0_part19_skel
  refine seq (sendD 11 (k0_dev52_eq c) (h := ?_))
  refine seq (sendM 11 (k0_dev53_eq c) (h := ?_))
  refine seq (sendD 12 (k0_dev54_eq c) (h := ?_))
  exact fin (h _)

theorem part20 {Q : BitVec 32 → sProp 𝕄} {P : sProp 𝕄} {v} (h : ∀ r, iprop(SendSt m ρ K c 14 14 ∗ P) ⊢ Q r) : iprop(SendSt m ρ K c 13 12 ∗ P)
    ⊢ bwp c (k0_part20 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c v) Q := by
  rw [k0_part20_eq_skeleton]; unfold k0_part20_skel
  refine seq (sendM 12 (k0_dev55_eq c) (h := ?_))
  refine seq (sendD 13 (k0_dev56_eq c) (h := ?_))
  refine seq (sendM 13 (k0_dev57_eq c) (h := ?_))
  exact fin (h _)

theorem part21 {Q : (Σ' (_ : BitVec 32) (_ : BitVec 32), BitVec 32) → sProp 𝕄} {P : sProp 𝕄} {v x} (h : ∀ r, iprop(SendSt m ρ K c 16 16 ∗ P) ⊢ Q r) : iprop(SendSt m ρ K c 14 14 ∗ P)
    ⊢ bwp c (k0_part21 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c v x) Q := by
  rw [k0_part21_eq_skeleton]; unfold k0_part21_skel
  refine seq (sendD 14 (k0_dev58_eq c) (h := ?_))
  refine seq (sendM 14 (k0_dev59_eq c) (h := ?_))
  refine seq (sendD 15 (k0_dev60_eq c) (h := ?_))
  refine seq (sendM 15 (k0_dev61_eq c) (h := ?_))
  exact fin (h _)

theorem part22 {Q : PUnit → sProp 𝕄} {P : sProp 𝕄} {v x y z} (h : ∀ r, iprop(SendSt m ρ K c 18 17 ∗ P) ⊢ Q r) : iprop(SendSt m ρ K c 16 16 ∗ P)
    ⊢ bwp c (k0_part22 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c v x y z) Q := by
  rw [k0_part22_eq_skeleton]; unfold k0_part22_skel
  refine seq (sendD 16 (k0_dev62_eq c) (h := ?_))
  refine seq (sendM 16 (k0_dev63_eq c) (h := ?_))
  refine seq (sendD 17 (k0_dev64_eq c) (h := ?_))
  exact fin (h _)

theorem part23 {Q : BitVec 32 → sProp 𝕄} {P : sProp 𝕄} {v} (h : ∀ r, iprop(SendSt m ρ K c 19 19 ∗ P) ⊢ Q r) : iprop(SendSt m ρ K c 18 17 ∗ P)
    ⊢ bwp c (k0_part23 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c v) Q := by
  rw [k0_part23_eq_skeleton]; unfold k0_part23_skel
  refine seq (sendM 17 (k0_dev65_eq c) (h := ?_))
  refine seq (sendD 18 (k0_dev66_eq c) (h := ?_))
  refine seq (sendM 18 (k0_dev67_eq c) (h := ?_))
  exact fin (h _)

theorem part24 {Q : (Σ' (_ : BitVec 32) (_ : BitVec 32), BitVec 32) → sProp 𝕄} {P : sProp 𝕄} {v x} (h : ∀ r, iprop(SendSt m ρ K c 21 21 ∗ P) ⊢ Q r) : iprop(SendSt m ρ K c 19 19 ∗ P)
    ⊢ bwp c (k0_part24 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c v x) Q := by
  rw [k0_part24_eq_skeleton]; unfold k0_part24_skel
  refine seq (sendD 19 (k0_dev68_eq c) (h := ?_))
  refine seq (sendM 19 (k0_dev69_eq c) (h := ?_))
  refine seq (sendD 20 (k0_dev70_eq c) (h := ?_))
  refine seq (sendM 20 (k0_dev71_eq c) (h := ?_))
  exact fin (h _)

theorem part25 {Q : PUnit → sProp 𝕄} {P : sProp 𝕄} {v x y z} (h : ∀ r, iprop(SendSt m ρ K c 23 22 ∗ P) ⊢ Q r) : iprop(SendSt m ρ K c 21 21 ∗ P)
    ⊢ bwp c (k0_part25 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c v x y z) Q := by
  rw [k0_part25_eq_skeleton]; unfold k0_part25_skel
  refine seq (sendD 21 (k0_dev72_eq c) (h := ?_))
  refine seq (sendM 21 (k0_dev73_eq c) (h := ?_))
  refine seq (sendD 22 (k0_dev74_eq c) (h := ?_))
  exact fin (h _)

theorem part26 {Q : BitVec 32 → sProp 𝕄} {P : sProp 𝕄} {v} (h : ∀ r, iprop(SendSt m ρ K c 24 24 ∗ P) ⊢ Q r) : iprop(SendSt m ρ K c 23 22 ∗ P)
    ⊢ bwp c (k0_part26 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c v) Q := by
  rw [k0_part26_eq_skeleton]; unfold k0_part26_skel
  refine seq (sendM 22 (k0_dev75_eq c) (h := ?_))
  refine seq (sendD 23 (k0_dev76_eq c) (h := ?_))
  refine seq (sendM 23 (k0_dev77_eq c) (h := ?_))
  exact fin (h _)

theorem part27 {Q : (Σ' (_ : BitVec 32) (_ : BitVec 32), BitVec 32) → sProp 𝕄} {P : sProp 𝕄} {v x} (h : ∀ r, iprop(SendSt m ρ K c 26 26 ∗ P) ⊢ Q r) : iprop(SendSt m ρ K c 24 24 ∗ P)
    ⊢ bwp c (k0_part27 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c v x) Q := by
  rw [k0_part27_eq_skeleton]; unfold k0_part27_skel
  refine seq (sendD 24 (k0_dev78_eq c) (h := ?_))
  refine seq (sendM 24 (k0_dev79_eq c) (h := ?_))
  refine seq (sendD 25 (k0_dev80_eq c) (h := ?_))
  refine seq (sendM 25 (k0_dev81_eq c) (h := ?_))
  exact fin (h _)

theorem part28 {Q : PUnit → sProp 𝕄} {P : sProp 𝕄} {v x y z} (h : ∀ r, iprop(SendSt m ρ K c 28 27 ∗ P) ⊢ Q r) : iprop(SendSt m ρ K c 26 26 ∗ P)
    ⊢ bwp c (k0_part28 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c v x y z) Q := by
  rw [k0_part28_eq_skeleton]; unfold k0_part28_skel
  refine seq (sendD 26 (k0_dev82_eq c) (h := ?_))
  refine seq (sendM 26 (k0_dev83_eq c) (h := ?_))
  refine seq (sendD 27 (k0_dev84_eq c) (h := ?_))
  exact fin (h _)

theorem part29 {Q : BitVec 32 → sProp 𝕄} {P : sProp 𝕄} {v} (h : ∀ r, iprop(SendSt m ρ K c 29 29 ∗ P) ⊢ Q r) : iprop(SendSt m ρ K c 28 27 ∗ P)
    ⊢ bwp c (k0_part29 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c v) Q := by
  rw [k0_part29_eq_skeleton]; unfold k0_part29_skel
  refine seq (sendM 27 (k0_dev85_eq c) (h := ?_))
  refine seq (sendD 28 (k0_dev86_eq c) (h := ?_))
  refine seq (sendM 28 (k0_dev87_eq c) (h := ?_))
  exact fin (h _)

theorem part30 {Q : (Σ' (_ : BitVec 32) (_ : BitVec 32), BitVec 32) → sProp 𝕄} {P : sProp 𝕄} {v x} (h : ∀ r, iprop(SendSt m ρ K c 31 31 ∗ P) ⊢ Q r) : iprop(SendSt m ρ K c 29 29 ∗ P)
    ⊢ bwp c (k0_part30 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c v x) Q := by
  rw [k0_part30_eq_skeleton]; unfold k0_part30_skel
  refine seq (sendD 29 (k0_dev88_eq c) (h := ?_))
  refine seq (sendM 29 (k0_dev89_eq c) (h := ?_))
  refine seq (sendD 30 (k0_dev90_eq c) (h := ?_))
  refine seq (sendM 30 (k0_dev91_eq c) (h := ?_))
  exact fin (h _)

end Cert.KernelIdeal.Run

end
-- ==== Proof.KernelIdeal.Recvs.lean ====
/-
# The waits, part by part

The parts of the program that wait for the receives and for the sends.
-/
module

public import proofs.«01_k».proof.Proof.KernelIdeal.Sends

@[expose] public section

set_option maxRecDepth 4000

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg}

variable {K : Dev nD × Cell → ℕ} {c : Dev nD}

/-! ### The parts that wait for the received entries -/

/-- The device's number as the program computes it. -/
abbrev word (c : Dev nD) : BitVec 32 := Scalar.remsi (Scalar.divsi (Dev.word c) 1#32) 32#32

theorem cond_eq : ∀ p c : Dev nD, Scalar.cmpi .ne (Scalar.extui (Scalar.cmpi .ne (word c) (BitVec.ofNat 32 p.val)) : BitVec 32) 0#32 = 1#1 ↔ p ≠ c := by
  decide +kernel

theorem recv {α : Type} {Q : α → sProp 𝕄} {P : sProp 𝕄} (p : ℕ) {b : BitVec 1} (hb : b = Scalar.cmpi .ne (Scalar.extui (Scalar.cmpi .ne (word c) (BitVec.ofNat 32 p)) : BitVec 32) 0#32 := by rfl)
    (hp : p < nD := by decide) {hi8 hi10}
    {src dst : Memref sig .tc .vmem S128x64 .bf16} {src' dst' : Memref sig .tc .vmem S8x128 .f32}
    {e1 e2 e3 e4} {rest : Prog (TpuEff nD τ sig (Elt F) Λ₀ .tc) α}
    (h : iprop(RecvSt m ρ K c (p + 1) ∗ P) ⊢ bwp c rest Q) (hd : dst.view.dmaCredit = ND := by rfl) (hd' : dst'.view.dmaCredit = NA := by rfl) :
    iprop(RecvSt m ρ K c p ∗ P) ⊢ bwp c (if h : b = 1#1 then
      Prog.lift (.waitDma2 (semAt cc0_scratch5 ![p] hi8) src dst e1 e2) >>= fun _ =>
        Prog.lift (.waitDma2 (semAt cc0_scratch7 ![p] hi10) src' dst' e3 e4) >>= fun _ => rest
      else rest) Q :=
  step_recv m ρ K c ⟨p, hp⟩ (by rw [hb]; exact cond_eq ⟨p, hp⟩ c) rfl rfl hd hd' h

theorem waitD {Q : PUnit → sProp 𝕄} {P : sProp 𝕄} (k : ℕ) (hk : k < nD := by decide) (h0 : k ≠ 0 := by decide) {q : ℕ} {hi}
    {src dst : Memref sig .tc .vmem S128x64 .bf16} {e1 e2}
    (h : iprop(WaitSt m ρ K c (k + 1) q ∗ P) ⊢ Q ⟨⟩) (hd : dst.view.dmaCredit = ND := by rfl) :
    iprop(WaitSt m ρ K c k q ∗ P) ⊢ bwp c (Prog.lift (.waitDma2 (semAt cc0_scratch4 ![k] hi) src dst e1 e2)) Q :=
  step_waitD m ρ K c ⟨k, hk⟩ (ne_zero h0) q rfl hd h

theorem waitM {Q : PUnit → sProp 𝕄} {P : sProp 𝕄} (k : ℕ) (hk : k < nD := by decide) (h0 : k ≠ 0 := by decide) {n : ℕ} {hi}
    {src dst : Memref sig .tc .vmem S8x128 .f32} {e1 e2}
    (h : iprop(WaitSt m ρ K c n (k + 1) ∗ P) ⊢ Q ⟨⟩) (hd : dst.view.dmaCredit = NA := by rfl) :
    iprop(WaitSt m ρ K c n k ∗ P) ⊢ bwp c (Prog.lift (.waitDma2 (semAt cc0_scratch6 ![k] hi) src dst e1 e2)) Q :=
  step_waitM m ρ K c ⟨k, hk⟩ (ne_zero h0) n rfl hd h

/-- The credits of all sends, and the positions at their cells. -/
def sentAll (c : Dev nD) : sProp 𝕄 := iprop(bigSep (fr 1) (datSent (F := F) c) ∗ bigSep (fr 1) (maxSent (F := F) c))
def sendPos (c : Dev nD) : sProp 𝕄 :=
  iprop(bigSep (fr 1) (fun k => atPos ER (dsend c k) 0 ∅ 0) ∗ bigSep (fr 1) (fun k => atPos ER (asend c k) 0 ∅ 0))

/-- With every send out, the receives start; -/
theorem to_recv (P : sProp 𝕄) : iprop(SendSt m ρ K c 32 32 ∗ bigSep Finset.univ (recvRes m ρ c) ∗ P) ⊢ iprop(RecvSt m ρ K c 0 ∗ sentAll (F := F) c ∗ P) := by
  unfold SendSt RecvSt sentAll
  rw [OX_end, dn_full, dn_self, fr_zero, bigSep_empty]
  iintro ⟨⟨Hr, HO, ⟨-, Hd⟩, ⟨-, Hm⟩⟩, HR, HP⟩
  isplitl [Hr HO HR]
  · isplitl [Hr]; · iexact Hr
    isplitl [HO]; · iexact HO
    isplitl [HR]; · iexact HR
    iempintro
  isplitr [HP]
  · isplitl [Hd]; · iexact Hd
    iexact Hm
  iexact HP

/-- with every entry received, the waits on the sends. -/
theorem to_wait (P : sProp 𝕄) : iprop(RecvSt m ρ K c 32 ∗ sentAll (F := F) c ∗ sendPos (F := F) c ∗ P)
    ⊢ iprop(WaitSt m ρ K c 1 1 ∗ bigSep Finset.univ (recvDone m ρ c) ∗ P) := by
  unfold WaitSt RecvSt sentAll sendPos datWait maxWait
  rw [dn_full, dn_self, fr_zero, bigSep_empty, bigSep_empty, bigSep_sep', bigSep_sep']
  iintro ⟨⟨Hr, HO, -, HR⟩, ⟨Hd, Hm⟩, ⟨Hd', Hm'⟩, HP⟩
  isplitr [HR HP]
  · isplitl [Hr]; · iexact Hr
    isplitl [HO]; · iexact HO
    isplitl [Hd Hd']
    · isplitl
      · isplitl [Hd']; · iexact Hd'
        iexact Hd
      iempintro
    · isplitl
      · isplitl [Hm']; · iexact Hm'
        iexact Hm
      iempintro
  isplitl [HR]; · iexact HR
  iexact HP

theorem part31 {Q : BitVec 1 → sProp 𝕄} {P : sProp 𝕄} {x y z} (h : iprop(RecvSt m ρ K c 5 ∗ sentAll (F := F) c ∗ P) ⊢ Q (Scalar.cmpi .ne (word c) 5#32)) : iprop(SendSt m ρ K c 31 31 ∗ bigSep Finset.univ (recvRes m ρ c) ∗ P)
    ⊢ bwp c (k0_part31 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c (word c) x y z) Q := by
  rw [k0_part31_eq_skeleton]; unfold k0_part31_skel
  refine seq (sendD 31 (k0_dev92_eq c) (h := ?_))
  refine seq (sendM 31 (k0_dev93_eq c) (h := ?_))
  refine (to_recv P).trans ?_
  refine recv 0 (h := ?_)
  refine recv 1 (h := ?_)
  refine recv 2 (h := ?_)
  refine recv 3 (h := ?_)
  refine recv 4 (h := ?_)
  exact fin h

theorem part32 {Q : BitVec 1 → sProp 𝕄} {P : sProp 𝕄} (h : iprop(RecvSt m ρ K c 15 ∗ P) ⊢ Q (Scalar.cmpi .ne (word c) 15#32)) : iprop(RecvSt m ρ K c 5 ∗ P)
    ⊢ bwp c (k0_part32 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 (word c) (Scalar.cmpi .ne (word c) 5#32)) Q := by
  rw [k0_part32_eq_skeleton]; unfold k0_part32_skel
  refine recv 5 (h := ?_)
  refine recv 6 (h := ?_)
  refine recv 7 (h := ?_)
  refine recv 8 (h := ?_)
  refine recv 9 (h := ?_)
  refine recv 10 (h := ?_)
  refine recv 11 (h := ?_)
  refine recv 12 (h := ?_)
  refine recv 13 (h := ?_)
  refine recv 14 (h := ?_)
  exact fin h

theorem part33 {Q : BitVec 1 → sProp 𝕄} {P : sProp 𝕄} (h : iprop(RecvSt m ρ K c 25 ∗ P) ⊢ Q (Scalar.cmpi .ne (word c) 25#32)) : iprop(RecvSt m ρ K c 15 ∗ P)
    ⊢ bwp c (k0_part33 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 (word c) (Scalar.cmpi .ne (word c) 15#32)) Q := by
  rw [k0_part33_eq_skeleton]; unfold k0_part33_skel
  refine recv 15 (h := ?_)
  refine recv 16 (h := ?_)
  refine recv 17 (h := ?_)
  refine recv 18 (h := ?_)
  refine recv 19 (h := ?_)
  refine recv 20 (h := ?_)
  refine recv 21 (h := ?_)
  refine recv 22 (h := ?_)
  refine recv 23 (h := ?_)
  refine recv 24 (h := ?_)
  exact fin h

theorem part34 {Q : PUnit → sProp 𝕄} {P : sProp 𝕄} (h : ∀ r, iprop(WaitSt m ρ K c 2 1 ∗ bigSep Finset.univ (recvDone m ρ c) ∗ P) ⊢ Q r) : iprop(RecvSt m ρ K c 25 ∗ sentAll (F := F) c ∗ sendPos (F := F) c ∗ P)
    ⊢ bwp c (k0_part34 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c (word c) (Scalar.cmpi .ne (word c) 25#32)) Q := by
  rw [k0_part34_eq_skeleton]; unfold k0_part34_skel
  refine recv 25 (h := ?_)
  refine recv 26 (h := ?_)
  refine recv 27 (h := ?_)
  refine recv 28 (h := ?_)
  refine recv 29 (h := ?_)
  refine recv 30 (h := ?_)
  refine recv 31 (h := ?_)
  refine (to_wait P).trans ?_
  refine seq (waitD 1 (h := ?_))
  exact fin (h _)

/-! ### The parts that wait on the sends -/

theorem part35 {Q : PUnit → sProp 𝕄} {P : sProp 𝕄} (h : ∀ r, iprop(WaitSt m ρ K c 5 4 ∗ P) ⊢ Q r) : iprop(WaitSt m ρ K c 2 1 ∗ P)
    ⊢ bwp c (k0_part35 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c) Q := by
  rw [k0_part35_eq_skeleton]; unfold k0_part35_skel
  refine seq (waitM 1 (h := ?_))
  refine seq (waitD 2 (h := ?_))
  refine seq (waitM 2 (h := ?_))
  refine seq (waitD 3 (h := ?_))
  refine seq (waitM 3 (h := ?_))
  refine seq (waitD 4 (h := ?_))
  exact fin (h _)

theorem part36 {Q : PUnit → sProp 𝕄} {P : sProp 𝕄} (h : ∀ r, iprop(WaitSt m ρ K c 7 7 ∗ P) ⊢ Q r) : iprop(WaitSt m ρ K c 5 4 ∗ P)
    ⊢ bwp c (k0_part36 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c) Q := by
  rw [k0_part36_eq_skeleton]; unfold k0_part36_skel
  refine seq (waitM 4 (h := ?_))
  refine seq (waitD 5 (h := ?_))
  refine seq (waitM 5 (h := ?_))
  refine seq (waitD 6 (h := ?_))
  refine seq (waitM 6 (h := ?_))
  exact fin (h _)

theorem part37 {Q : PUnit → sProp 𝕄} {P : sProp 𝕄} (h : ∀ r, iprop(WaitSt m ρ K c 10 10 ∗ P) ⊢ Q r) : iprop(WaitSt m ρ K c 7 7 ∗ P)
    ⊢ bwp c (k0_part37 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c) Q := by
  rw [k0_part37_eq_skeleton]; unfold k0_part37_skel
  refine seq (waitD 7 (h := ?_))
  refine seq (waitM 7 (h := ?_))
  refine seq (waitD 8 (h := ?_))
  refine seq (waitM 8 (h := ?_))
  refine seq (waitD 9 (h := ?_))
  refine seq (waitM 9 (h := ?_))
  exact fin (h _)

theorem part38 {Q : PUnit → sProp 𝕄} {P : sProp 𝕄} (h : ∀ r, iprop(WaitSt m ρ K c 13 12 ∗ P) ⊢ Q r) : iprop(WaitSt m ρ K c 10 10 ∗ P)
    ⊢ bwp c (k0_part38 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c) Q := by
  rw [k0_part38_eq_skeleton]; unfold k0_part38_skel
  refine seq (waitD 10 (h := ?_))
  refine seq (waitM 10 (h := ?_))
  refine seq (waitD 11 (h := ?_))
  refine seq (waitM 11 (h := ?_))
  refine seq (waitD 12 (h := ?_))
  exact fin (h _)

theorem part39 {Q : PUnit → sProp 𝕄} {P : sProp 𝕄} (h : ∀ r, iprop(WaitSt m ρ K c 15 15 ∗ P) ⊢ Q r) : iprop(WaitSt m ρ K c 13 12 ∗ P)
    ⊢ bwp c (k0_part39 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c) Q := by
  rw [k0_part39_eq_skeleton]; unfold k0_part39_skel
  refine seq (waitM 12 (h := ?_))
  refine seq (waitD 13 (h := ?_))
  refine seq (waitM 13 (h := ?_))
  refine seq (waitD 14 (h := ?_))
  refine seq (waitM 14 (h := ?_))
  exact fin (h _)

theorem part40 {Q : PUnit → sProp 𝕄} {P : sProp 𝕄} (h : ∀ r, iprop(WaitSt m ρ K c 18 18 ∗ P) ⊢ Q r) : iprop(WaitSt m ρ K c 15 15 ∗ P)
    ⊢ bwp c (k0_part40 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c) Q := by
  rw [k0_part40_eq_skeleton]; unfold k0_part40_skel
  refine seq (waitD 15 (h := ?_))
  refine seq (waitM 15 (h := ?_))
  refine seq (waitD 16 (h := ?_))
  refine seq (waitM 16 (h := ?_))
  refine seq (waitD 17 (h := ?_))
  refine seq (waitM 17 (h := ?_))
  exact fin (h _)

theorem part41 {Q : PUnit → sProp 𝕄} {P : sProp 𝕄} (h : ∀ r, iprop(WaitSt m ρ K c 21 21 ∗ P) ⊢ Q r) : iprop(WaitSt m ρ K c 18 18 ∗ P)
    ⊢ bwp c (k0_part41 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c) Q := by
  rw [k0_part41_eq_skeleton]; unfold k0_part41_skel
  refine seq (waitD 18 (h := ?_))
  refine seq (waitM 18 (h := ?_))
  refine seq (waitD 19 (h := ?_))
  refine seq (waitM 19 (h := ?_))
  refine seq (waitD 20 (h := ?_))
  refine seq (waitM 20 (h := ?_))
  exact fin (h _)

theorem part42 {Q : PUnit → sProp 𝕄} {P : sProp 𝕄} (h : ∀ r, iprop(WaitSt m ρ K c 24 23 ∗ P) ⊢ Q r) : iprop(WaitSt m ρ K c 21 21 ∗ P)
    ⊢ bwp c (k0_part42 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c) Q := by
  rw [k0_part42_eq_skeleton]; unfold k0_part42_skel
  refine seq (waitD 21 (h := ?_))
  refine seq (waitM 21 (h := ?_))
  refine seq (waitD 22 (h := ?_))
  refine seq (waitM 22 (h := ?_))
  refine seq (waitD 23 (h := ?_))
  exact fin (h _)

theorem part43 {Q : PUnit → sProp 𝕄} {P : sProp 𝕄} (h : ∀ r, iprop(WaitSt m ρ K c 26 26 ∗ P) ⊢ Q r) : iprop(WaitSt m ρ K c 24 23 ∗ P)
    ⊢ bwp c (k0_part43 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c) Q := by
  rw [k0_part43_eq_skeleton]; unfold k0_part43_skel
  refine seq (waitM 23 (h := ?_))
  refine seq (waitD 24 (h := ?_))
  refine seq (waitM 24 (h := ?_))
  refine seq (waitD 25 (h := ?_))
  refine seq (waitM 25 (h := ?_))
  exact fin (h _)

theorem part44 {Q : PUnit → sProp 𝕄} {P : sProp 𝕄} (h : ∀ r, iprop(WaitSt m ρ K c 29 29 ∗ P) ⊢ Q r) : iprop(WaitSt m ρ K c 26 26 ∗ P)
    ⊢ bwp c (k0_part44 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c) Q := by
  rw [k0_part44_eq_skeleton]; unfold k0_part44_skel
  refine seq (waitD 26 (h := ?_))
  refine seq (waitM 26 (h := ?_))
  refine seq (waitD 27 (h := ?_))
  refine seq (waitM 27 (h := ?_))
  refine seq (waitD 28 (h := ?_))
  refine seq (waitM 28 (h := ?_))
  exact fin (h _)

theorem part45 {Q : PUnit → sProp 𝕄} {P : sProp 𝕄} (h : ∀ r, iprop(WaitSt m ρ K c 32 31 ∗ P) ⊢ Q r) : iprop(WaitSt m ρ K c 29 29 ∗ P)
    ⊢ bwp c (k0_part45 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c) Q := by
  rw [k0_part45_eq_skeleton]; unfold k0_part45_skel
  refine seq (waitD 29 (h := ?_))
  refine seq (waitM 29 (h := ?_))
  refine seq (waitD 30 (h := ?_))
  refine seq (waitM 30 (h := ?_))
  refine seq (waitD 31 (h := ?_))
  exact fin (h _)

end Cert.KernelIdeal.Run

end
-- ==== Proof.KernelIdeal.Blocks.lean ====
/-
# Column blocks

The parts of the program that store the thirty-two column blocks of a device's rows of `y`.
-/
module

public import proofs.«01_k».proof.Proof.KernelIdeal.Recvs

@[expose] public section

set_option maxRecDepth 4000

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg}

variable {K : Dev nD × Cell → ℕ} {c : Dev nD}

/-! ### Loads and stores -/

/-- A load from elements of a buffer held at any share; -/
theorem load_sub {d : Dev nD} {s : Shape} {e : EltTy} (M : Memref sig .tc .vmem s e) {S : Finset (Idx (M.view.loc (d : Thread nD τ)))} {q : PosShare TreeShare}
    (f : Buf (Elt F) (M.view.loc (d : Thread nD τ))) {r : LoadRect s} {hl : M.view.LoadsAt r} (hS : M.view.setOn r.set ⊆ S)
    {Q : (r.shape.Idx → Elt F e) → sProp 𝕄} {P : sProp 𝕄}
    (h : iprop((M.view.loc (d : Thread nD τ) ↦[S]{q} f) ∗ P) ⊢ Q (M.view.readAt (Elt F) r f)) :
    iprop((M.view.loc (d : Thread nD τ) ↦[S]{q} f) ∗ P) ⊢ bwp d (Prog.lift (.load M r hl)) Q := by
  unfold bwp Prog.lift
  iintro ⟨H, HP⟩
  iapply (wp_load 𝒱₀ (d : Thread nD τ) none Set.univ (m := M) hS) $$ H
  iintro H
  iapply (fin (Entails.refl _))
  iapply h
  isplitl [H]; · iexact H
  iexact HP

/-- a store to elements of a buffer held whole. -/
theorem store_sub {d : Dev nD} {s : Shape} {e : EltTy} (M : Memref sig .tc .vmem s e) {r : Rect s} {S : Finset (Idx ((M.access r).loc (d : Thread nD τ)))}
    (f : Buf (Elt F) ((M.access r).loc (d : Thread nD τ))) {w : r.shape.Idx → Elt F e} {hx hm} (hS : (M.access r).setOn Finset.univ ⊆ S)
    {Q : PUnit → sProp 𝕄} {P : sProp 𝕄}
    (h : iprop(((M.access r).loc (d : Thread nD τ) ↦[S]{fullShare} ((M.access r).write (Elt F) f w Finset.univ)) ∗ P) ⊢ Q ⟨⟩) :
    iprop(((M.access r).loc (d : Thread nD τ) ↦[S]{fullShare} f) ∗ P) ⊢ bwp d (Prog.lift (.store M r w Finset.univ hx hm)) Q := by
  unfold bwp Prog.lift
  iintro ⟨H, HP⟩
  iapply (wp_store 𝒱₀ (d : Thread nD τ) none Set.univ (m := M) (r := r) (Mk := Finset.univ) hS) $$ H
  iintro H
  iapply (fin (Entails.refl _))
  iapply h
  isplitl [H]; · iexact H
  iexact HP

/-- The elements a load or store at entry `p` goes through. -/
theorem yacc_set (p : Dev nD) (h) : (yM.access (Rect.unit (s := S32x128x64) ![p.val, 0, 0] S1x128x64.size h)).setOn Finset.univ = setD p :=
  (View.set_slice_whole _ _).trans (rectD_set p h)
theorem dacc_set (p : Dev nD) (h) : (dM.access (Rect.unit (s := S32x128x64) ![p.val, 0, 0] S1x128x64.size h)).setOn Finset.univ = setD p :=
  (View.set_slice_whole _ _).trans (rectD_set p h)
theorem aacc_set (p : Dev nD) (h) : (aM.access (Rect.unit (s := S32x8x128) ![p.val, 0, 0] S1x8x128.size h)).setOn Finset.univ = setA p :=
  (View.set_slice_whole _ _).trans (rectA_set p h)

/-- Storing column block `n` over the first `n`. -/
theorem write_block {n : ℕ} (hn : n < nD) (h) (y : FVec F S128x2048 .f32) (f : S32x128x64.Idx → Elt F .bf16) :
    (yM.access (Rect.unit (s := S32x128x64) ![n, 0, 0] S1x128x64.size h)).write (Elt F) (blocksUpTo n y f) (colY ⟨n, hn⟩ y) Finset.univ = blocksUpTo (n + 1) y f := by
  funext i
  by_cases hi : (i 0).val = n
  · have hm : i ∈ (yM.access (Rect.unit (s := S32x128x64) ![n, 0, 0] S1x128x64.size h)).setOn Finset.univ := by
      rw [yacc_set ⟨n, hn⟩ h]; exact mem_setD.mpr hi
    obtain ⟨x, -, rfl⟩ := Finset.mem_map.mp hm
    refine (View.write_emb_of_mem _ _ (Finset.mem_univ x)).trans ?_
    have e : ((yM.access (Rect.unit (s := S32x128x64) ![n, 0, 0] S1x128x64.size h)).emb x) = (Rect.unit (s := S32x128x64) ![n, 0, 0] S1x128x64.size h).emb x := rfl
    unfold blocksUpTo blocksY
    rw [if_pos (by rw [hi]; exact Nat.lt_succ_self n), e, devD_emb ⟨n, hn⟩ h x, inD_emb ⟨n, hn⟩ h x]
    rfl
  · refine (View.write_of_not_mem _ _ _ fun hm => hi ?_).trans ?_
    · rw [yacc_set ⟨n, hn⟩ h] at hm; exact mem_setD.mp hm
    · unfold blocksUpTo
      by_cases hl : (i 0).val < n
      · rw [if_pos hl, if_pos (hl.trans (Nat.lt_succ_self n))]
      · rw [if_neg hl, if_neg (by omega)]

/-- Device `c`'s buffer of column blocks, the first `n` stored over `f`. -/
def YW (c : Dev nD) (n : ℕ) (y : FVec F S128x2048 .f32) (f : S32x128x64.Idx → Elt F .bf16) : sProp 𝕄 :=
  ((c : Thread nD τ).loc cc0_scratch0) ↦{fullShare} blocksUpTo n y f

theorem loadY {n : ℕ} {y : FVec F S128x2048 .f32} {f} {r : LoadRect S32x128x64} {hl} {Q : (r.shape.Idx → Elt F .bf16) → sProp 𝕄} {P : sProp 𝕄}
    (h : ∀ v, iprop(YW c n y f ∗ P) ⊢ Q v) : iprop(YW c n y f ∗ P) ⊢ bwp c (Prog.lift (.load yM r hl)) Q :=
  load_sub yM _ (Finset.subset_univ _) (h _)

theorem storeY (n : ℕ) (hn : n < nD := by decide) {y : FVec F S128x2048 .f32} {f} {v : FVec F S1x128x64 .bf16} (hv : v = colY ⟨n, hn⟩ y := by rfl)
    {h1} {hx : (yM.access (Rect.unit (s := S32x128x64) ![n, 0, 0] S1x128x64.size h1)).Stores Finset.univ} {hm} {Q : PUnit → sProp 𝕄} {P : sProp 𝕄} (h : iprop(YW c (n + 1) y f ∗ P) ⊢ Q ⟨⟩) :
    iprop(YW c n y f ∗ P) ⊢ bwp c (Prog.lift (.store yM (Rect.unit (s := S32x128x64) ![n, 0, 0] S1x128x64.size h1) v Finset.univ hx hm)) Q := by
  have hw := write_block hn h1 y f
  rw [← hv] at hw
  unfold YW at h ⊢
  rw [← hw] at h
  generalize blocksUpTo n y f = g at h ⊢
  have hS : (yM.access (Rect.unit (s := S32x128x64) ![n, 0, 0] S1x128x64.size h1)).setOn Finset.univ ⊆ (Finset.univ : Finset (Idx ((c : Thread nD τ).loc cc0_scratch0))) := fun _ _ => Finset.mem_univ _
  refine store_sub (d := c) (M := yM) (S := Finset.univ) (r := Rect.unit (s := S32x128x64) ![n, 0, 0] S1x128x64.size h1) g (w := v) (hx := hx) (hm := hm) hS h

theorem blocksUpTo_zero (y : FVec F S128x2048 .f32) (f : S32x128x64.Idx → Elt F .bf16) : blocksUpTo 0 y f = f :=
  funext fun i => if_neg (Nat.not_lt_zero _)
theorem blocksUpTo_all (y : FVec F S128x2048 .f32) (f : S32x128x64.Idx → Elt F .bf16) : blocksUpTo 32 y f = blocksY y :=
  funext fun i => if_pos (i 0).isLt

/-- Device `c`'s operands, staged. -/
def XW (m : (ℓ : Loc nD τ sig) → Buf (Elt F) ℓ) (ρ : Dev nD → PrngReg) (c : Dev nD) : sProp 𝕄 :=
  iprop((((c : Thread nD τ).loc cc0_stg1_0) ↦{fullShare} wstg m ρ c) ∗ (((c : Thread nD τ).loc cc0_stg0_0) ↦{fullShare} xstg m ρ c))

theorem assoc_l {A B P R : sProp 𝕄} (h : iprop(A ∗ B ∗ P) ⊢ R) : iprop((A ∗ B) ∗ P) ⊢ R := by
  refine BIBase.Entails.trans ?_ h
  iintro ⟨⟨HA, HB⟩, HP⟩
  isplitl [HA]; · iexact HA
  isplitl [HB]; · iexact HB
  iexact HP
theorem assoc_r {A B P R : sProp 𝕄} (h : iprop((A ∗ B) ∗ P) ⊢ R) : iprop(A ∗ B ∗ P) ⊢ R := by
  refine BIBase.Entails.trans ?_ h
  iintro ⟨HA, HB, HP⟩
  isplitr [HP]
  · isplitl [HA]; · iexact HA
    iexact HB
  iexact HP
theorem swap2 {A B P R : sProp 𝕄} (h : iprop(B ∗ A ∗ P) ⊢ R) : iprop(A ∗ B ∗ P) ⊢ R := by
  refine BIBase.Entails.trans ?_ h
  iintro ⟨HA, HB, HP⟩
  isplitl [HB]; · iexact HB
  isplitl [HA]; · iexact HA
  iexact HP
theorem swap3 {A B D P R : sProp 𝕄} (h : iprop(D ∗ A ∗ B ∗ P) ⊢ R) : iprop(A ∗ B ∗ D ∗ P) ⊢ R := by
  refine BIBase.Entails.trans ?_ h
  iintro ⟨HA, HB, HD, HP⟩
  isplitl [HD]; · iexact HD
  isplitl [HA]; · iexact HA
  isplitl [HB]; · iexact HB
  iexact HP

theorem loadW {r : LoadRect S4096x2048} {hl : wM.view.LoadsAt r} {Q : (r.shape.Idx → Elt F .bf16) → sProp 𝕄} {P : sProp 𝕄}
    (h : iprop(XW m ρ c ∗ P) ⊢ Q (wM.view.readAt (Elt F) r (wstg m ρ c))) : iprop(XW m ρ c ∗ P) ⊢ bwp c (Prog.lift (.load wM r hl)) Q := by
  unfold XW at h ⊢
  have hS : wM.view.setOn r.set ⊆ (Finset.univ : Finset (Idx (wM.view.loc (c : Thread nD τ)))) := fun _ _ => Finset.mem_univ _
  exact assoc_l (load_sub (d := c) (M := wM) (S := Finset.univ) (wstg m ρ c) (hl := hl) hS (assoc_r h))

theorem loadX {r : LoadRect S128x4096} {hl : xM.view.LoadsAt r} {Q : (r.shape.Idx → Elt F .bf16) → sProp 𝕄} {P : sProp 𝕄}
    (h : iprop(XW m ρ c ∗ P) ⊢ Q (xM.view.readAt (Elt F) r (xstg m ρ c))) : iprop(XW m ρ c ∗ P) ⊢ bwp c (Prog.lift (.load xM r hl)) Q := by
  unfold XW at h ⊢
  have hS : xM.view.setOn r.set ⊆ (Finset.univ : Finset (Idx (xM.view.loc (c : Thread nD τ)))) := fun _ _ => Finset.mem_univ _
  exact assoc_l (swap2 (load_sub (d := c) (M := xM) (S := Finset.univ) (xstg m ρ c) (hl := hl) hS (swap2 (assoc_r h))))

/-! ### The parts that store the column blocks -/

theorem part3 {y : FVec F S128x2048 .f32} {f} {Q : (Σ' (_ : FVec F S128x64 .bf16), Vec F S1x128x64 .bf16) → sProp 𝕄} {P : sProp 𝕄}
    (h : ∀ v, iprop(YW c 10 y f ∗ P) ⊢ Q ⟨k0_pay16 y, v⟩) : iprop(YW c 4 y f ∗ P)
    ⊢ bwp c (k0_part3 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 y) Q := by
  rw [k0_part3_eq_skeleton]; unfold k0_part3_skel
  refine seq (loadY fun _ => seq (storeY 4 (h := ?_)))
  refine seq (loadY fun _ => seq (storeY 5 (h := ?_)))
  refine seq (loadY fun _ => seq (storeY 6 (h := ?_)))
  refine seq (loadY fun _ => seq (storeY 7 (h := ?_)))
  refine seq (loadY fun _ => seq (storeY 8 (h := ?_)))
  refine seq (loadY fun _ => seq (storeY 9 (h := ?_)))
  exact seq (loadY fun _ => fin (h _))

theorem part4 {y : FVec F S128x2048 .f32} {f} {Q : FVec F S128x64 .bf16 → sProp 𝕄} {P : sProp 𝕄} {v}
    (h : iprop(YW c 17 y f ∗ P) ⊢ Q (k0_pay24 y)) : iprop(YW c 10 y f ∗ P)
    ⊢ bwp c (k0_part4 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 y (k0_pay16 y) v) Q := by
  rw [k0_part4_eq_skeleton]; unfold k0_part4_skel
  refine seq (storeY 10 (h := ?_))
  refine seq (loadY fun _ => seq (storeY 11 (h := ?_)))
  refine seq (loadY fun _ => seq (storeY 12 (h := ?_)))
  refine seq (loadY fun _ => seq (storeY 13 (h := ?_)))
  refine seq (loadY fun _ => seq (storeY 14 (h := ?_)))
  refine seq (loadY fun _ => seq (storeY 15 (h := ?_)))
  refine seq (loadY fun _ => seq (storeY 16 (h := ?_)))
  exact fin h

theorem part5 {y : FVec F S128x2048 .f32} {f} {Q : PUnit → sProp 𝕄} {P : sProp 𝕄}
    (h : ∀ r, iprop(YW c 24 y f ∗ P) ⊢ Q r) : iprop(YW c 17 y f ∗ P)
    ⊢ bwp c (k0_part5 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 y (k0_pay24 y)) Q := by
  rw [k0_part5_eq_skeleton]; unfold k0_part5_skel
  refine seq (loadY fun _ => seq (storeY 17 (h := ?_)))
  refine seq (loadY fun _ => seq (storeY 18 (h := ?_)))
  refine seq (loadY fun _ => seq (storeY 19 (h := ?_)))
  refine seq (loadY fun _ => seq (storeY 20 (h := ?_)))
  refine seq (loadY fun _ => seq (storeY 21 (h := ?_)))
  refine seq (loadY fun _ => seq (storeY 22 (h := ?_)))
  refine seq (loadY fun _ => seq (storeY 23 (h := ?_)))
  exact fin (h _)

theorem part6 {y : FVec F S128x2048 .f32} {f} {Q : (Σ' (_ : FVec F S128x64 .bf16), Vec F S1x128x64 .bf16) → sProp 𝕄} {P : sProp 𝕄}
    (h : ∀ v, iprop(YW c 30 y f ∗ P) ⊢ Q ⟨k0_pay38 y, v⟩) : iprop(YW c 24 y f ∗ P)
    ⊢ bwp c (k0_part6 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 y) Q := by
  rw [k0_part6_eq_skeleton]; unfold k0_part6_skel
  refine seq (loadY fun _ => seq (storeY 24 (h := ?_)))
  refine seq (loadY fun _ => seq (storeY 25 (h := ?_)))
  refine seq (loadY fun _ => seq (storeY 26 (h := ?_)))
  refine seq (loadY fun _ => seq (storeY 27 (h := ?_)))
  refine seq (loadY fun _ => seq (storeY 28 (h := ?_)))
  refine seq (loadY fun _ => seq (storeY 29 (h := ?_)))
  exact seq (loadY fun _ => fin (h _))

end Cert.KernelIdeal.Run

end
-- ==== Proof.KernelIdeal.Compute.lean ====
/-
# The product and its maximum

The parts of the program that form a device's rows of `y`, their maximum and the device's own entry of what it receives.
-/
module

public import proofs.«01_k».proof.Proof.KernelIdeal.Blocks
public import Idealize.ShloMosaic.Lib.Pipeline.Value

@[expose] public section

set_option maxRecDepth 4000

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg}

variable {K : Dev nD × Cell → ℕ} {c : Dev nD}

/-! ### The device's own entries -/

theorem own_block (c : Dev nD) {off : Fin 3 → ℕ} (ho : off = ![c.val, 0, 0]) (h h') (g : S32x128x64.Idx → Elt F .bf16) :
    ∀ i ∈ setD c, (dM.access (Rect.unit (s := S32x128x64) off S1x128x64.size h)).write (Elt F) g
      (k0_pay42 (yM.view.readAt (Elt F) (Rect.unit (s := S32x128x64) off S1x128x64.size h').toLoadRect (YB m ρ c))) Finset.univ i = DR m ρ c i := by
  subst ho
  intro i hi
  rw [← dacc_set c h] at hi
  obtain ⟨x, -, rfl⟩ := Finset.mem_map.mp hi
  refine (View.write_emb_of_mem _ _ (Finset.mem_univ x)).trans ?_
  have e : ((dM.access (Rect.unit (s := S32x128x64) ![c.val, 0, 0] S1x128x64.size h)).emb x) = (Rect.unit (s := S32x128x64) ![c.val, 0, 0] S1x128x64.size h).emb x := rfl
  unfold k0_pay42
  rw [e, shapeCast_self]
  show YB m ρ c ((Rect.unit (s := S32x128x64) ![c.val, 0, 0] S1x128x64.size h).emb x) = _
  unfold YB blocksY DR
  rw [devD_emb]

theorem pay43_eq (v : F .f32) : k0_pay43 v = fun _ => v := by
  unfold k0_pay43
  funext x
  rfl
theorem pay41_eq (v : F .f32) : k0_pay41 v = fun _ => v := by
  unfold k0_pay41
  funext x
  rfl

theorem write_own (c : Dev nD) (h) (g : S32x8x128.Idx → Elt F .f32) (v : F .f32) :
    ∀ i ∈ setA c, (aM.access (Rect.unit (s := S32x8x128) ![c.val, 0, 0] S1x8x128.size h)).write (Elt F) g (fun _ => v) Finset.univ i = v := by
  intro i hi
  rw [← aacc_set c h] at hi
  obtain ⟨x, -, rfl⟩ := Finset.mem_map.mp hi
  exact View.write_emb_of_mem _ _ (Finset.mem_univ x)

theorem own_max (c : Dev nD) {off : Fin 3 → ℕ} (ho : off = ![c.val, 0, 0]) (h) (g : S32x8x128.Idx → Elt F .f32) :
    ∀ i ∈ setA c, (aM.access (Rect.unit (s := S32x8x128) off S1x8x128.size h)).write (Elt F) g (k0_pay43 (mOf m ρ c)) Finset.univ i = AR m ρ c i := by
  subst ho
  intro i hi
  have e : AR m ρ c i = mOf m ρ c := by
    unfold AR
    rw [show devA i = c from Fin.ext (mem_setA.mp hi)]
  rw [e]
  generalize mOf m ρ c = v
  exact (congrArg (fun w => (aM.access (Rect.unit (s := S32x8x128) ![c.val, 0, 0] S1x8x128.size h)).write (Elt F) g w Finset.univ i) (pay43_eq v)).trans (write_own c h g v i hi)

/-- The maximum a device sends, whole. -/
def SW (m : (ℓ : Loc nD τ sig) → Buf (Elt F) ℓ) (ρ : Dev nD → PrngReg) (c : Dev nD) : sProp 𝕄 := ((c : Thread nD τ).loc cc0_scratch2) ↦{fullShare} AM m ρ c

theorem hz2 : (![0, 0] : Fin 2 → Nat) = fun _ => 0 := funext fun a => by fin_cases a <;> rfl
theorem hz3 : (![0, 0, 0] : Fin 3 → Nat) = fun _ => 0 := funext fun a => by fin_cases a <;> rfl

/-- The device's own entry of what it receives, loaded: the value is not used; -/
theorem load_own {S : Finset S32x128x64.Idx} {g : S32x128x64.Idx → Elt F .bf16} {r : Rect S32x128x64} (hr : r.set = S)
    {hl : dM.view.LoadsAt r.toLoadRect} {Q : (r.shape.Idx → Elt F .bf16) → sProp 𝕄} {P : sProp 𝕄}
    (h : ∀ v, iprop((((c : Thread nD τ).loc cc0_scratch1) ↦[S]{fullShare} g) ∗ P) ⊢ Q v) :
    iprop((((c : Thread nD τ).loc cc0_scratch1) ↦[S]{fullShare} g) ∗ P) ⊢ bwp c (Prog.lift (.load dM r.toLoadRect hl)) Q := by
  have hS : dM.view.setOn r.toLoadRect.set ⊆ S := hr ▸ (Finset.map_refl).le
  exact load_sub (d := c) (M := dM) (S := S) g (hl := hl) hS (h _)
theorem load_ownA {S : Finset S32x8x128.Idx} {g : S32x8x128.Idx → Elt F .f32} {r : Rect S32x8x128} (hr : r.set = S)
    {hl : aM.view.LoadsAt r.toLoadRect} {Q : (r.shape.Idx → Elt F .f32) → sProp 𝕄} {P : sProp 𝕄}
    (h : ∀ v, iprop((((c : Thread nD τ).loc cc0_scratch3) ↦[S]{fullShare} g) ∗ P) ⊢ Q v) :
    iprop((((c : Thread nD τ).loc cc0_scratch3) ↦[S]{fullShare} g) ∗ P) ⊢ bwp c (Prog.lift (.load aM r.toLoadRect hl)) Q := by
  have hS : aM.view.setOn r.toLoadRect.set ⊆ S := hr ▸ (Finset.map_refl).le
  exact load_sub (d := c) (M := aM) (S := S) g (hl := hl) hS (h _)

/-- stored. -/
theorem store_own {S : Finset S32x128x64.Idx} {g g' : S32x128x64.Idx → Elt F .bf16} {r : Rect S32x128x64}
    (hr : (dM.access r).setOn Finset.univ = S) {v : r.shape.Idx → Elt F .bf16}
    (hv : ∀ i ∈ S, (dM.access r).write (Elt F) g v Finset.univ i = g' i)
    {hx hm} {Q : PUnit → sProp 𝕄} {P : sProp 𝕄}
    (h : iprop((((c : Thread nD τ).loc cc0_scratch1) ↦[S]{fullShare} g') ∗ P) ⊢ Q ⟨⟩) :
    iprop((((c : Thread nD τ).loc cc0_scratch1) ↦[S]{fullShare} g) ∗ P) ⊢ bwp c (Prog.lift (.store dM r v Finset.univ hx hm)) Q := by
  rw [← pointsTo_congr hv] at h
  exact store_sub (d := c) (M := dM) (S := S) (r := r) g (w := v) (hx := hx) (hm := hm) hr.le h
theorem store_ownA {S : Finset S32x8x128.Idx} {g g' : S32x8x128.Idx → Elt F .f32} {r : Rect S32x8x128}
    (hr : (aM.access r).setOn Finset.univ = S) {v : r.shape.Idx → Elt F .f32}
    (hv : ∀ i ∈ S, (aM.access r).write (Elt F) g v Finset.univ i = g' i)
    {hx hm} {Q : PUnit → sProp 𝕄} {P : sProp 𝕄}
    (h : iprop((((c : Thread nD τ).loc cc0_scratch3) ↦[S]{fullShare} g') ∗ P) ⊢ Q ⟨⟩) :
    iprop((((c : Thread nD τ).loc cc0_scratch3) ↦[S]{fullShare} g) ∗ P) ⊢ bwp c (Prog.lift (.store aM r v Finset.univ hx hm)) Q := by
  rw [← pointsTo_congr hv] at h
  exact store_sub (d := c) (M := aM) (S := S) (r := r) g (w := v) (hx := hx) (hm := hm) hr.le h

theorem load_id {Q : Dev nD → sProp 𝕄} {P : sProp 𝕄} (h : P ⊢ Q c) : P ⊢ bwp c (Prog.lift .deviceId) Q := by
  unfold bwp Prog.lift
  rw [wp_deviceId]
  exact fin h

/-- The maximum, loaded and stored whole. -/
theorem loadS {g : S8x128.Idx → Elt F .f32} {r : LoadRect S8x128} {hl} {Q : (r.shape.Idx → Elt F .f32) → sProp 𝕄} {P : sProp 𝕄}
    (h : ∀ v, iprop((((c : Thread nD τ).loc cc0_scratch2) ↦{fullShare} g) ∗ P) ⊢ Q v) :
    iprop((((c : Thread nD τ).loc cc0_scratch2) ↦{fullShare} g) ∗ P) ⊢ bwp c (Prog.lift (.load sM r hl)) Q := by
  have hS : sM.view.setOn r.set ⊆ (Finset.univ : Finset (Idx (sM.view.loc (c : Thread nD τ)))) := fun _ _ => Finset.mem_univ _
  exact load_sub (d := c) (M := sM) (S := Finset.univ) g (hl := hl) hS (h _)
theorem storeS {g v : S8x128.Idx → Elt F .f32} {hx hm} {Q : PUnit → sProp 𝕄} {P : sProp 𝕄}
    (h : iprop((((c : Thread nD τ).loc cc0_scratch2) ↦{fullShare} v) ∗ P) ⊢ Q ⟨⟩) :
    iprop((((c : Thread nD τ).loc cc0_scratch2) ↦{fullShare} g) ∗ P) ⊢ bwp c (Prog.lift (.store sM (Rect.unit (s := S8x128) ![0, 0] S8x128.size inb_S8x128_S8x128_0_0) v Finset.univ hx hm)) Q := by
  have hS : (sM.access (Rect.unit (s := S8x128) ![0, 0] S8x128.size inb_S8x128_S8x128_0_0)).setOn Finset.univ ⊆ (Finset.univ : Finset (Idx ((c : Thread nD τ).loc cc0_scratch2))) := fun _ _ => Finset.mem_univ _
  have e := Memref.write_access_unit_zero_univ (Elt F) cc0_scratch2 hz2 inb_S8x128_S8x128_0_0 g v
  refine store_sub (d := c) (M := sM) (S := Finset.univ) (r := Rect.unit (s := S8x128) ![0, 0] S8x128.size inb_S8x128_S8x128_0_0) g (w := v) (hx := hx) (hm := hm) hS ?_
  rw [show (sM.access (Rect.unit (s := S8x128) ![0, 0] S8x128.size inb_S8x128_S8x128_0_0)).write (Elt F) g v Finset.univ = v from e]
  exact h

/-! ### The parts that compute -/

theorem part1 {Q : (Σ' (_ : Dev nD) (_ : BitVec 32) (_ : FVec F S128x4096 .bf16), FVec F S128x2048 .f32) → sProp 𝕄} {P : sProp 𝕄}
    (h : iprop(XW m ρ c ∗ P) ⊢ Q ⟨c, word c, k0_pay2 (xAll (xstg m ρ c)), partY (xstg m ρ c) (wstg m ρ c)⟩) : iprop(XW m ρ c ∗ P)
    ⊢ bwp c (k0_part1 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7) Q := by
  rw [k0_part1_eq_skeleton]; unfold k0_part1_skel
  refine seq (load_id (seq (loadX ?_)))
  refine seq (loadW (seq (loadW (seq (loadW ?_)))))
  refine seq (loadW (seq (loadW (seq (loadW ?_)))))
  exact fin h

theorem part2 {f} {Q : (Σ' (_ : FVec F S128x2048 .f32), F .f32) → sProp 𝕄} {P : sProp 𝕄}
    (h : iprop(XW m ρ c ∗ YW c 4 (yOf m ρ c) f ∗ P) ⊢ Q ⟨yOf m ρ c, mOf m ρ c⟩) : iprop(XW m ρ c ∗ YW c 0 (yOf m ρ c) f ∗ P)
    ⊢ bwp c (k0_part2 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 (k0_pay2 (xAll (xstg m ρ c))) (partY (xstg m ρ c) (wstg m ρ c))) Q := by
  rw [k0_part2_eq_skeleton]; unfold k0_part2_skel
  refine seq (loadW (seq (loadW (swap2 ?_))))
  refine seq (loadY fun _ => seq (storeY 0 (h := ?_)))
  refine seq (loadY fun _ => seq (storeY 1 (h := ?_)))
  refine seq (loadY fun _ => seq (storeY 2 (h := ?_)))
  refine seq (loadY fun _ => seq (storeY 3 (h := ?_)))
  exact fin (swap2 h)

theorem part7 {f v w g1 g2 g3} {Q : (Σ' (_ : Sems sig S_), BitVec 32) → sProp 𝕄} {P : sProp 𝕄}
    (h : iprop(SigSt m ρ K c 3 ∗ YW c 32 (yOf m ρ c) f ∗ SW m ρ c ∗ dPts c c (DR m ρ c) ∗ aPts c c (AR m ρ c) ∗ P) ⊢ Q ⟨SemArray.scalar (sig.barrier 0 rfl), 3#32⟩) :
    iprop(YW c 30 (yOf m ρ c) f ∗ (((c : Thread nD τ).loc cc0_scratch2) ↦{fullShare} g1) ∗ dPts c c g2 ∗ aPts c c g3 ∗ SigSt m ρ K c 1 ∗ P)
    ⊢ bwp c (k0_part7 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7 c v (yOf m ρ c) (mOf m ρ c) (k0_pay38 (yOf m ρ c)) w) Q := by
  rw [k0_part7_eq_skeleton]; unfold k0_part7_skel
  refine seq (storeY 30 (h := seq (loadY fun _ => seq (storeY 31 (h := ?_)))))
  refine swap2 (seq (loadS fun _ => seq (storeS ?_)))
  refine swap2 (seq ?_)
  have hS : yM.view.setOn (Rect.unit (s := S32x128x64) (k0_off1 c) S1x128x64.size (k0_off1_inb c)).toLoadRect.set ⊆ (Finset.univ : Finset (Idx (yM.view.loc (c : Thread nD τ)))) := fun _ _ => Finset.mem_univ _
  have e : YW c 32 (yOf m ρ c) f = (((c : Thread nD τ).loc cc0_scratch0) ↦{fullShare} YB m ρ c) := by
    unfold YW; rw [blocksUpTo_all]; rfl
  rw [e] at h ⊢
  refine load_sub (d := c) (M := yM) (S := Finset.univ) (YB m ρ c) hS ?_
  have hr : (Rect.unit (s := S32x128x64) (k0_off1 c) S1x128x64.size (k0_off1_inb c)).set = setD c := by
    generalize k0_off1_inb c = hi; revert hi; rw [k0_off1_eq c]; intro hi; exact rectD_set c hi
  have hra : (Rect.unit (s := S32x8x128) (k0_off2 c) S1x8x128.size (k0_off2_inb c)).set = setA c := by
    generalize k0_off2_inb c = hi; revert hi; rw [k0_off2_eq c]; intro hi; exact rectA_set c hi
  have hx : (dM.access (Rect.unit (s := S32x128x64) (k0_off1 c) S1x128x64.size (k0_off1_inb c))).setOn Finset.univ = setD c := (View.set_slice_whole _ _).trans hr
  have hxa : (aM.access (Rect.unit (s := S32x8x128) (k0_off2 c) S1x8x128.size (k0_off2_inb c))).setOn Finset.univ = setA c := (View.set_slice_whole _ _).trans hra
  unfold dPts aPts at h ⊢
  refine swap3 (seq (load_own hr fun _ => ?_))
  refine seq (store_own hx (own_block c (k0_off1_eq c) _ _ _) ?_)
  refine BIBase.Entails.trans (show _ ⊢ iprop((((c : Thread nD τ).loc cc0_scratch3) ↦[setA c]{fullShare} g3) ∗ (((c : Thread nD τ).loc cc0_scratch1) ↦[setD c]{fullShare} DR m ρ c) ∗ (((c : Thread nD τ).loc cc0_scratch0) ↦{fullShare} YB m ρ c) ∗ (((c : Thread nD τ).loc cc0_scratch2) ↦{fullShare} k0_pay41 (mOf m ρ c)) ∗ SigSt m ρ K c 1 ∗ P) from ?_) ?_
  · iintro ⟨HD, HY, HS, HA, H⟩
    isplitl [HA]; · iexact HA
    isplitl [HD]; · iexact HD
    isplitl [HY]; · iexact HY
    isplitl [HS]; · iexact HS
    iexact H
  refine seq (load_ownA hra fun _ => ?_)
  refine seq (store_ownA hxa (own_max c (k0_off2_eq c) _ _) ?_)
  refine BIBase.Entails.trans (show _ ⊢ iprop(SigSt m ρ K c 1 ∗ (((c : Thread nD τ).loc cc0_scratch0) ↦{fullShare} YB m ρ c) ∗ SW m ρ c ∗ (((c : Thread nD τ).loc cc0_scratch1) ↦[setD c]{fullShare} DR m ρ c) ∗ (((c : Thread nD τ).loc cc0_scratch3) ↦[setA c]{fullShare} AR m ρ c) ∗ P) from ?_) ?_
  · iintro ⟨HA, HD, HY, HS, HG, H⟩
    isplitl [HG]; · iexact HG
    isplitl [HY]; · iexact HY
    isplitl [HS]; · unfold SW AM; iexact HS
    isplitl [HD]; · iexact HD
    isplitl [HA]; · iexact HA
    iexact H
  refine seq (signal 1 (k0_dev1_eq c) (h := ?_))
  refine seq (signal 2 (k0_dev2_eq c) (h := ?_))
  exact fin h

end Cert.KernelIdeal.Run

end
-- ==== Proof.KernelIdeal.Ghost.lean ====
/-
# Start and end

A device's buffers cut entry by entry, what its program starts from, and what is whole again when it ends.
-/
module

public import proofs.«01_k».proof.Proof.KernelIdeal.Compute

@[expose] public section

set_option maxRecDepth 4000

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg}

/-! ### Families over the devices -/

theorem around (c : Dev nD) (Φ : Dev nD → sProp 𝕄) : bigSep Finset.univ Φ = iprop(Φ c ∗ bigSep (fr 1) fun k => Φ (c + k)) := by
  rw [bigSep_erase (Finset.mem_univ c), erase_eq, bigSep_map]; rfl
theorem from_zero (Φ : Dev nD → sProp 𝕄) : bigSep Finset.univ Φ = iprop(Φ 0 ∗ bigSep (fr 1) Φ) := by
  rw [← fr_zero]; exact fr_bigSep Φ (by decide)
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem over_cells (Φ : Cell → sProp 𝕄) : bigSep Finset.univ Φ = iprop(Φ none ∗ bigSep Finset.univ fun x : Fin 4 × Dev nD => Φ (some x)) := by
  rw [bigSep_erase (Finset.mem_univ none),
    show (Finset.univ.erase none : Finset Cell) = Finset.univ.map Function.Embedding.some from by
      ext i; rcases i with _ | x <;> simp, bigSep_map]
  rfl
theorem cells_eq (Φ : Cell → sProp 𝕄) : bigSep Finset.univ Φ = iprop(Φ none ∗ (bigSep Finset.univ fun k => Φ (some (0, k)))
    ∗ (bigSep Finset.univ fun k => Φ (some (1, k))) ∗ (bigSep Finset.univ fun k => Φ (some (2, k))) ∗ (bigSep Finset.univ fun k => Φ (some (3, k)))) := by
  rw [over_cells, bigSep_univ_prod, four]

/-! ### A device's buffers, entry by entry -/

theorem y_eq (c : Dev nD) (f : S32x128x64.Idx → Elt F .bf16) :
    ((((c : Thread nD τ).loc cc0_scratch0) ↦{fullShare} f : sProp 𝕄)) = bigSep Finset.univ fun p => yPts c p f :=
  Ring.pointsTo_blocks (ℓ := (c : Thread nD τ).loc cc0_scratch0) (B := Dev nD) setD setD_disjoint setD_cover f
theorem d_eq (c : Dev nD) (f : S32x128x64.Idx → Elt F .bf16) :
    ((((c : Thread nD τ).loc cc0_scratch1) ↦{fullShare} f : sProp 𝕄)) = bigSep Finset.univ fun p => dPts c p f :=
  Ring.pointsTo_blocks (ℓ := (c : Thread nD τ).loc cc0_scratch1) (B := Dev nD) setD setD_disjoint setD_cover f
theorem a_eq (c : Dev nD) (f : S32x8x128.Idx → Elt F .f32) :
    ((((c : Thread nD τ).loc cc0_scratch3) ↦{fullShare} f : sProp 𝕄)) = bigSep Finset.univ fun p => aPts c p f :=
  Ring.pointsTo_blocks (ℓ := (c : Thread nD τ).loc cc0_scratch3) (B := Dev nD) setA setA_disjoint setA_cover f
theorem s_eq (c : Dev nD) : SW (F := F) m ρ c = bigSep Finset.univ (sPts m ρ c) := by
  unfold SW sPts mShare
  exact ShareLeaves.pointsTo_leaves (ℓ := (c : Thread nD τ).loc cc0_scratch2) Finset.univ (AM m ρ c) 5 fullShare

/-! ### What a device's program starts from -/

/-- The tokens of the duties a device pays; -/
def payToks (c : Dev nD) : sProp 𝕄 := iprop(bigSep (fr 1) (fun k => dutyTok ER (bar (c + k)) 0 c) ∗ bigSep (fr 1) (toks (F := F) c))
/-- its positions, at round 0 of its cells, beside them; -/
def linear (c : Dev nD) : sProp 𝕄 := iprop((bigSep Finset.univ fun i : Cell => atPos ER (cell c i) 0 ∅ 0) ∗ payToks (F := F) c)
/-- the credits of what it waits for from others. -/
def recvCr (c : Dev nD) : sProp 𝕄 := bigSep (Finset.univ.erase c) fun p => iprop(cred (tallyAt (drecv c p) () ND) ∗ cred (tallyAt (arecv c p) () NA))
def creds (c : Dev nD) : sProp 𝕄 := iprop(cred (tallyAt (bar c) () 31) ∗ recvCr (F := F) c)

def recvPos (c : Dev nD) : sProp 𝕄 :=
  iprop((bigSep Finset.univ fun p => atPos ER (drecv c p) 0 ∅ 0) ∗ bigSep Finset.univ fun p => atPos ER (arecv c p) 0 ∅ 0)
/-- What the parts before the barrier wait leave alone. -/
def Held (c : Dev nD) : sProp 𝕄 :=
  iprop((semVal (dsend c 0) 0 ∗ semVal (asend c 0) 0) ∗ (cred (tallyAt (bar c) () 31) ∗ atPos ER (bar c) 0 ∅ 0 ∗ levAts L lv ∗ bigSep (fr 1) (toks (F := F) c))
    ∗ recvPos (F := F) c ∗ recvCr (F := F) c ∗ sendPos (F := F) c)

theorem bar_res (c : Dev nD) (g2 : S32x128x64.Idx → Elt F .bf16) (g3 : S32x8x128.Idx → Elt F .f32) :
    iprop(bigSep (fr 1) (fun k => dutyTok ER (bar (c + k)) 0 c) ∗ bigSep (fr 1) (fun k => dPts c (c + k) g2) ∗ bigSep (fr 1) (fun k => aPts c (c + k) g3))
      ⊢ (bigSep (fr 1) (sigRes (F := F) c) : sProp 𝕄) := by
  rw [← bigSep_sep', ← bigSep_sep']
  refine bigSep_mono fun k _ => ?_
  show iprop(dutyTok ER (bar (c + k)) 0 c ∗ dPts c (c + k) g2 ∗ aPts c (c + k) g3) ⊢ sigRes (F := F) c k
  unfold sigRes barPay
  iintro ⟨Ht, Hd, Ha⟩
  isplitl [Ht]; · iexact Ht
  isplitl [Hd]; · iexists g2; iexact Hd
  iexists g3; iexact Ha

/-- The program's start: the cells no transfer uses close. -/
theorem open_entry (K : Dev nD × Cell → ℕ) (c : Dev nD) (g2 : S32x128x64.Idx → Elt F .bf16) (g3 : S32x8x128.Idx → Elt F .f32) :
    iprop(recs m ρ K ∗ (∃ W, owes (c : Thread nD τ) (O₀ c) W) ∗ linear (F := F) c ∗ creds (F := F) c ∗ levAts L lv
        ∗ (((c : Thread nD τ).loc cc0_scratch1) ↦{fullShare} g2) ∗ (((c : Thread nD τ).loc cc0_scratch3) ↦{fullShare} g3))
      ⊢ |={Set.univ}=> iprop(dPts c c g2 ∗ aPts c c g3 ∗ SigSt m ρ K c 1 ∗ Held (F := F) c) := by
  have hcells := cells_eq (F := F) fun i => atPos ER (cell c i) 0 ∅ 0
  have hs0 := from_zero (F := F) fun k => atPos ER (cell c (some (0, k))) 0 ∅ 0
  have hs2 := from_zero (F := F) fun k => atPos ER (cell c (some (2, k))) 0 ∅ 0
  have hd := (d_eq c g2).trans (around c fun p => dPts c p g2)
  have ha := (a_eq c g3).trans (around c fun p => aPts c p g3)
  rw [hd, ha]
  unfold linear creds payToks
  rw [hcells, hs0, hs2]
  iintro ⟨#Hrec, HO, ⟨⟨Hb, ⟨H00, H0⟩, H1, ⟨H20, H2⟩, H3⟩, Htb, Ht⟩, ⟨Hcb, Hcr⟩, Hlev, ⟨Hd, Hds⟩, Ha, Has⟩
  imod (close_idle m ρ K c (some (0, 0)) (duties_send0 c (.inl rfl))) $$ [H00] with Hz0
  · isplitr; · iexact Hrec
    iexact H00
  imod (close_idle m ρ K c (some (2, 0)) (duties_send0 c (.inr rfl))) $$ [H20] with Hz2
  · isplitr; · iexact Hrec
    iexact H20
  imodintro
  isplitl [Hd]; · iexact Hd
  isplitl [Ha]; · iexact Ha
  isplitl [HO Htb Hds Has]
  · unfold SigSt
    isplitr; · iexact Hrec
    isplitl [HO]; · iexact HO
    iapply (bar_res c g2 g3)
    isplitl [Htb]; · iexact Htb
    isplitl [Hds]; · iexact Hds
    iexact Has
  unfold Held recvPos sendPos
  isplitl [Hz0 Hz2]
  · isplitl [Hz0]; · iexact Hz0
    iexact Hz2
  isplitl [Hcb Hb Hlev Ht]
  · isplitl [Hcb]; · iexact Hcb
    isplitl [Hb]; · iexact Hb
    isplitl [Hlev]; · iexact Hlev
    iexact Ht
  isplitl [H1 H3]
  · isplitl [H1]; · iexact H1
    iexact H3
  isplitl [Hcr]; · iexact Hcr
  isplitl [H0]; · iexact H0
  iexact H2

theorem recv_res (c : Dev nD) : iprop(dPts c c (DR m ρ c) ∗ aPts c c (AR m ρ c) ∗ recvPos (F := F) c ∗ recvCr (F := F) c)
    ⊢ bigSep Finset.univ (recvRes m ρ c) := by
  have he : bigSep Finset.univ (fun p => if p = c then iprop(dPts c c (DR m ρ c) ∗ aPts c c (AR m ρ c)) else iprop(cred (tallyAt (drecv c p) () ND) ∗ cred (tallyAt (arecv c p) () NA)))
      = iprop((dPts c c (DR m ρ c) ∗ aPts c c (AR m ρ c)) ∗ recvCr (F := F) c) := by
    rw [bigSep_erase (Finset.mem_univ c), if_pos rfl]
    unfold recvCr
    rw [bigSep_congr fun p hp => if_neg (Finset.ne_of_mem_erase hp)]
    rfl
  unfold recvRes
  rw [bigSep_sep', bigSep_sep', he]
  unfold recvPos
  iintro ⟨Hd, Ha, ⟨H1, H3⟩, Hc⟩
  isplitl [H1]; · iexact H1
  isplitl [H3]; · iexact H3
  isplitr [Hc]
  · isplitl [Hd]; · iexact Hd
    iexact Ha
  iexact Hc

/-- What the parts after the barrier wait leave alone, of the device's own. -/
def Kept (m : (ℓ : Loc nD τ sig) → Buf (Elt F) ℓ) (ρ : Dev nD → PrngReg) (c : Dev nD) : sProp 𝕄 :=
  iprop((semVal (dsend c 0) 0 ∗ semVal (asend c 0) 0) ∗ yPts c c (YB m ρ c) ∗ sPts m ρ c 0)

/-- With `y` and its maximum computed: what the sends and receives use. -/
theorem mid (c : Dev nD) (f : S32x128x64.Idx → Elt F .bf16) :
    iprop(YW c 32 (yOf m ρ c) f ∗ SW m ρ c ∗ dPts c c (DR m ρ c) ∗ aPts c c (AR m ρ c) ∗ Held (F := F) c)
      ⊢ iprop((cred (tallyAt (bar c) () 31) ∗ atPos ER (bar c) 0 ∅ 0 ∗ levAts L lv ∗ bigSep (fr 1) (toks (F := F) c)
          ∗ bigSep (fr 1) (fun k => yPts c (c + k) (YB m ρ c)) ∗ bigSep (fr 1) (sPts m ρ c))
        ∗ bigSep Finset.univ (recvRes m ρ c) ∗ sendPos (F := F) c ∗ Kept m ρ c) := by
  have e : YW c 32 (yOf m ρ c) f = iprop(yPts c c (YB m ρ c) ∗ bigSep (fr 1) fun k => yPts c (c + k) (YB m ρ c)) := by
    unfold YW; rw [blocksUpTo_all]; exact (y_eq c (YB m ρ c)).trans (around c fun p => yPts c p (YB m ρ c))
  have e' : SW m ρ c = iprop(sPts m ρ c 0 ∗ bigSep (fr 1) (sPts m ρ c)) := (s_eq c).trans (from_zero _)
  rw [e, e']
  unfold Held Kept
  iintro ⟨⟨Hy, Hys⟩, ⟨Hs, Hss⟩, Hd, Ha, Hz, ⟨Hcb, Hb, Hlev, Ht⟩, Hp, Hc, Hsp⟩
  isplitl [Hcb Hb Hlev Ht Hys Hss]
  · isplitl [Hcb]; · iexact Hcb
    isplitl [Hb]; · iexact Hb
    isplitl [Hlev]; · iexact Hlev
    isplitl [Ht]; · iexact Ht
    isplitl [Hys]; · iexact Hys
    iexact Hss
  isplitl [Hd Ha Hp Hc]
  · iapply (recv_res c)
    isplitl [Hd]; · iexact Hd
    isplitl [Ha]; · iexact Ha
    isplitl [Hp]; · iexact Hp
    iexact Hc
  isplitl [Hsp]; · iexact Hsp
  isplitl [Hz]; · iexact Hz
  isplitl [Hy]; · iexact Hy
  iexact Hs

/-- A device's semaphores all at zero. -/
def zeros (c : Dev nD) : sProp 𝕄 := bigSep Finset.univ fun i : Cell => semVal (cell c i) 0

/-- The program's end: the buffers whole again, every semaphore at zero. -/
theorem shut (K : Dev nD × Cell → ℕ) (c : Dev nD) :
    iprop(WaitSt m ρ K c 32 32 ∗ bigSep Finset.univ (recvDone m ρ c) ∗ semVal (bar c) 0 ∗ Kept m ρ c)
      ⊢ iprop((((c : Thread nD τ).loc cc0_scratch3) ↦{fullShare} AR m ρ c) ∗ (((c : Thread nD τ).loc cc0_scratch1) ↦{fullShare} DR m ρ c)
        ∗ (((c : Thread nD τ).loc cc0_scratch0) ↦{fullShare} YB m ρ c) ∗ SW m ρ c ∗ (∃ W, owes (c : Thread nD τ) 0 W) ∗ zeros (F := F) c) := by
  have hy := (y_eq c (YB m ρ c)).trans (around c fun p => yPts c p (YB m ρ c))
  have hs : SW m ρ c = iprop(sPts m ρ c 0 ∗ bigSep (fr 1) (sPts m ρ c)) := (s_eq c).trans (from_zero _)
  have h0 := from_zero (F := F) fun k => semVal (cell c (some (0, k))) 0
  have h2 := from_zero (F := F) fun k => semVal (cell c (some (2, k))) 0
  unfold zeros
  rw [cells_eq (F := F) fun i => semVal (cell c i) 0, h0, h2, hy, hs, d_eq, a_eq]
  unfold WaitSt recvDone datDone maxDone Kept
  rw [dn_full, bigSep_sep', bigSep_sep', bigSep_sep', bigSep_sep', bigSep_sep']
  iintro ⟨⟨-, HO, ⟨-, Hzd, Hys⟩, ⟨-, Hza, Hss⟩⟩, ⟨⟨Hz1, Hz3⟩, Hd, Ha⟩, Hzb, ⟨Hz0, Hz2⟩, Hy, Hs⟩
  isplitl [Ha]; · iexact Ha
  isplitl [Hd]; · iexact Hd
  isplitl [Hy Hys]
  · isplitl [Hy]; · iexact Hy
    iexact Hys
  isplitl [Hs Hss]
  · isplitl [Hs]; · iexact Hs
    iexact Hss
  isplitl [HO]; · iexact HO
  isplitl [Hzb]; · iexact Hzb
  isplitl [Hz0 Hzd]
  · isplitl [Hz0]; · iexact Hz0
    iexact Hzd
  isplitl [Hz1]; · iexact Hz1
  isplitl [Hz2 Hza]
  · isplitl [Hz2]; · iexact Hz2
    iexact Hza
  iexact Hz3

end Cert.KernelIdeal.Run

end
-- ==== Proof.KernelIdeal.Body.lean ====
/-
# The program up to its last stores

All but the last three statements of the program, put together from its parts.
-/
module

public import proofs.«01_k».proof.Proof.KernelIdeal.Ghost

@[expose] public section

set_option maxRecDepth 4000

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg}

variable {K : Dev nD × Cell → ℕ} {c : Dev nD}

theorem loadA {g : S32x8x128.Idx → Elt F .f32} {hl} {Q : Vec F S32x8x128 .f32 → sProp 𝕄} {P : sProp 𝕄}
    (h : iprop((((c : Thread nD τ).loc cc0_scratch3) ↦{fullShare} g) ∗ P) ⊢ Q g) :
    iprop((((c : Thread nD τ).loc cc0_scratch3) ↦{fullShare} g) ∗ P)
      ⊢ bwp c (Prog.lift (.load aM (Rect.unit (s := S32x8x128) ![0, 0, 0] S32x8x128.size inb_S32x8x128_S32x8x128_0_0_0).toLoadRect hl)) Q := by
  have hS : aM.view.setOn (Rect.unit (s := S32x8x128) ![0, 0, 0] S32x8x128.size inb_S32x8x128_S32x8x128_0_0_0).toLoadRect.set
    ⊆ (Finset.univ : Finset (Idx (aM.view.loc (c : Thread nD τ)))) := fun _ _ => Finset.mem_univ _
  have e := Memref.readAt_unit_zero (Elt F) cc0_scratch3 hz3 inb_S32x8x128_S32x8x128_0_0_0 g
  refine load_sub (d := c) (M := aM) (S := Finset.univ) g (hl := hl) hS ?_
  rw [show aM.view.readAt (Elt F) (Rect.unit (s := S32x8x128) ![0, 0, 0] S32x8x128.size inb_S32x8x128_S32x8x128_0_0_0).toLoadRect g = g from e]
  exact h

theorem loadD {g : S32x128x64.Idx → Elt F .bf16} {hl} {Q : Vec F S32x128x64 .bf16 → sProp 𝕄} {P : sProp 𝕄}
    (h : iprop((((c : Thread nD τ).loc cc0_scratch1) ↦{fullShare} g) ∗ P) ⊢ Q g) :
    iprop((((c : Thread nD τ).loc cc0_scratch1) ↦{fullShare} g) ∗ P)
      ⊢ bwp c (Prog.lift (.load dM (Rect.unit (s := S32x128x64) ![0, 0, 0] S32x128x64.size inb_S32x128x64_S32x128x64_0_0_0).toLoadRect hl)) Q := by
  have hS : dM.view.setOn (Rect.unit (s := S32x128x64) ![0, 0, 0] S32x128x64.size inb_S32x128x64_S32x128x64_0_0_0).toLoadRect.set
    ⊆ (Finset.univ : Finset (Idx (dM.view.loc (c : Thread nD τ)))) := fun _ _ => Finset.mem_univ _
  have e := Memref.readAt_unit_zero (Elt F) cc0_scratch1 hz3 inb_S32x128x64_S32x128x64_0_0_0 g
  refine load_sub (d := c) (M := dM) (S := Finset.univ) g (hl := hl) hS ?_
  rw [show dM.view.readAt (Elt F) (Rect.unit (s := S32x128x64) ![0, 0, 0] S32x128x64.size inb_S32x128x64_S32x128x64_0_0_0).toLoadRect g = g from e]
  exact h

/-- The result's staging buffer, loaded and stored whole. -/
theorem loadO {g : S4096x64.Idx → Elt F .f32} {r : LoadRect S4096x64} {hl} {Q : (r.shape.Idx → Elt F .f32) → sProp 𝕄} {P : sProp 𝕄}
    (h : ∀ v, iprop((((c : Thread nD τ).loc cc0_stg2_0) ↦{fullShare} g) ∗ P) ⊢ Q v) :
    iprop((((c : Thread nD τ).loc cc0_stg2_0) ↦{fullShare} g) ∗ P) ⊢ bwp c (Prog.lift (.load oM r hl)) Q := by
  have hS : oM.view.setOn r.set ⊆ (Finset.univ : Finset (Idx (oM.view.loc (c : Thread nD τ)))) := fun _ _ => Finset.mem_univ _
  exact load_sub (d := c) (M := oM) (S := Finset.univ) g (hl := hl) hS (h _)
theorem storeO {g v : S4096x64.Idx → Elt F .f32} {hx hm} {Q : PUnit → sProp 𝕄} {P : sProp 𝕄}
    (h : iprop((((c : Thread nD τ).loc cc0_stg2_0) ↦{fullShare} v) ∗ P) ⊢ Q ⟨⟩) :
    iprop((((c : Thread nD τ).loc cc0_stg2_0) ↦{fullShare} g) ∗ P) ⊢ bwp c (Prog.lift (.store oM (Rect.unit (s := S4096x64) ![0, 0] S4096x64.size inb_S4096x64_S4096x64_0_0) v Finset.univ hx hm)) Q := by
  have hS : (oM.access (Rect.unit (s := S4096x64) ![0, 0] S4096x64.size inb_S4096x64_S4096x64_0_0)).setOn Finset.univ ⊆ (Finset.univ : Finset (Idx ((c : Thread nD τ).loc cc0_stg2_0))) := fun _ _ => Finset.mem_univ _
  have e := Memref.write_access_unit_zero_univ (Elt F) cc0_stg2_0 hz2 inb_S4096x64_S4096x64_0_0 g v
  refine store_sub (d := c) (M := oM) (S := Finset.univ) (r := Rect.unit (s := S4096x64) ![0, 0] S4096x64.size inb_S4096x64_S4096x64_0_0) g (w := v) (hx := hx) (hm := hm) hS ?_
  rw [show (oM.access (Rect.unit (s := S4096x64) ![0, 0] S4096x64.size inb_S4096x64_S4096x64_0_0)).write (Elt F) g v Finset.univ = v from e]
  exact h

/-- What the program has when it computes its result. -/
def Done (m : (ℓ : Loc nD τ sig) → Buf (Elt F) ℓ) (ρ : Dev nD → PrngReg) (c : Dev nD) : sProp 𝕄 :=
  iprop((((c : Thread nD τ).loc cc0_scratch3) ↦{fullShare} AR m ρ c) ∗ (((c : Thread nD τ).loc cc0_scratch1) ↦{fullShare} DR m ρ c)
        ∗ (((c : Thread nD τ).loc cc0_scratch0) ↦{fullShare} YB m ρ c) ∗ SW m ρ c ∗ (∃ W, owes (c : Thread nD τ) 0 W) ∗ zeros (F := F) c)

theorem rearr1 {f g1 g2 g3} {P : sProp 𝕄} :
    iprop(XW m ρ c ∗ YW c 4 (yOf m ρ c) f ∗ (((c : Thread nD τ).loc cc0_scratch2) ↦{fullShare} g1) ∗ dPts c c g2 ∗ aPts c c g3 ∗ SigSt m ρ K c 1 ∗ Held (F := F) c ∗ P)
      ⊢ iprop(YW c 4 (yOf m ρ c) f ∗ (((c : Thread nD τ).loc cc0_scratch2) ↦{fullShare} g1) ∗ dPts c c g2 ∗ aPts c c g3 ∗ SigSt m ρ K c 1 ∗ Held (F := F) c ∗ XW m ρ c ∗ P) := by
  iintro ⟨H1, H2, H3, H4, H5, H6, H7, H8⟩
  isplitl [H2]; · iexact H2
  isplitl [H3]; · iexact H3
  isplitl [H4]; · iexact H4
  isplitl [H5]; · iexact H5
  isplitl [H6]; · iexact H6
  isplitl [H7]; · iexact H7
  isplitl [H1]; · iexact H1
  iexact H8

theorem rearr2 {f} {P : sProp 𝕄} :
    iprop(SigSt m ρ K c 3 ∗ YW c 32 (yOf m ρ c) f ∗ SW m ρ c ∗ dPts c c (DR m ρ c) ∗ aPts c c (AR m ρ c) ∗ Held (F := F) c ∗ P)
      ⊢ iprop(SigSt m ρ K c 3 ∗ (cred (tallyAt (bar c) () 31) ∗ atPos ER (bar c) 0 ∅ 0 ∗ levAts L lv ∗ bigSep (fr 1) (toks (F := F) c)
          ∗ bigSep (fr 1) (fun k => yPts c (c + k) (YB m ρ c)) ∗ bigSep (fr 1) (sPts m ρ c))
        ∗ bigSep Finset.univ (recvRes m ρ c) ∗ sendPos (F := F) c ∗ Kept m ρ c ∗ P) := by
  iintro ⟨HS, H1, H2, H3, H4, H5, HP⟩
  ihave H := (mid (m := m) (ρ := ρ) c f) $$ [H1 H2 H3 H4 H5]
  · isplitl [H1]; · iexact H1
    isplitl [H2]; · iexact H2
    isplitl [H3]; · iexact H3
    isplitl [H4]; · iexact H4
    iexact H5
  icases H with ⟨HB, HR, HSP, HK⟩
  isplitl [HS]; · iexact HS
  isplitl [HB]; · iexact HB
  isplitl [HR]; · iexact HR
  isplitl [HSP]; · iexact HSP
  isplitl [HK]; · iexact HK
  iexact HP

theorem rearr3 {P : sProp 𝕄} :
    iprop(SendSt m ρ K c 31 31 ∗ semVal (bar c) 0 ∗ bigSep Finset.univ (recvRes m ρ c) ∗ sendPos (F := F) c ∗ Kept m ρ c ∗ P)
      ⊢ iprop(SendSt m ρ K c 31 31 ∗ bigSep Finset.univ (recvRes m ρ c) ∗ sendPos (F := F) c ∗ semVal (bar c) 0 ∗ Kept m ρ c ∗ P) := by
  iintro ⟨HS, HB, HR, HSP, H⟩
  isplitl [HS]; · iexact HS
  isplitl [HR]; · iexact HR
  isplitl [HSP]; · iexact HSP
  isplitl [HB]; · iexact HB
  iexact H

theorem rearr4 {P : sProp 𝕄} :
    iprop(WaitSt m ρ K c 32 32 ∗ bigSep Finset.univ (recvDone m ρ c) ∗ semVal (bar c) 0 ∗ Kept m ρ c ∗ P) ⊢ iprop(Done m ρ c ∗ P) := by
  iintro ⟨HW, HR, HB, HK, HP⟩
  isplitr [HP]
  · unfold Done
    iapply (shut K c)
    isplitl [HW]; · iexact HW
    isplitl [HR]; · iexact HR
    isplitl [HB]; · iexact HB
    iexact HK
  iexact HP

/-- All the parts, in order. -/
theorem part46 {f g1 g2 g3} {Q : F .f32 → sProp 𝕄} {P : sProp 𝕄} (h : iprop(Done m ρ c ∗ XW m ρ c ∗ P) ⊢ Q (k0_pay44 (AR m ρ c))) :
    iprop(XW m ρ c ∗ YW c 0 (yOf m ρ c) f ∗ (((c : Thread nD τ).loc cc0_scratch2) ↦{fullShare} g1) ∗ dPts c c g2 ∗ aPts c c g3 ∗ SigSt m ρ K c 1 ∗ Held (F := F) c ∗ P)
      ⊢ bwp c (k0_part46 xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7) Q := by
  rw [k0_part46_eq_skeleton]; unfold k0_part46_skel
  refine seq (part1 ?_)
  dsimp only
  refine seq (part2 ?_)
  dsimp only
  refine BIBase.Entails.trans rearr1 ?_
  refine seq (part3 fun _ => ?_)
  dsimp only
  refine seq (part4 ?_)
  refine seq (part5 fun _ => ?_)
  refine seq (part6 fun _ => ?_)
  dsimp only
  refine seq (part7 ?_)
  dsimp only
  refine BIBase.Entails.trans rearr2 ?_
  refine seq (part8 fun _ => ?_)
  refine seq (part9 fun _ => ?_)
  refine seq (part10 fun _ => ?_)
  refine seq (part11 fun _ => ?_)
  refine seq (part12 fun ⟨_, _, _⟩ => ?_)
  dsimp only
  refine seq (part13 fun _ => ?_)
  refine seq (part14 fun _ => ?_)
  refine seq (part15 fun ⟨_, _, _⟩ => ?_)
  dsimp only
  refine seq (part16 fun _ => ?_)
  refine seq (part17 fun _ => ?_)
  refine seq (part18 fun ⟨_, _, _⟩ => ?_)
  dsimp only
  refine seq (part19 fun _ => ?_)
  refine seq (part20 fun _ => ?_)
  refine seq (part21 fun ⟨_, _, _⟩ => ?_)
  dsimp only
  refine seq (part22 fun _ => ?_)
  refine seq (part23 fun _ => ?_)
  refine seq (part24 fun ⟨_, _, _⟩ => ?_)
  dsimp only
  refine seq (part25 fun _ => ?_)
  refine seq (part26 fun _ => ?_)
  refine seq (part27 fun ⟨_, _, _⟩ => ?_)
  dsimp only
  refine seq (part28 fun _ => ?_)
  refine seq (part29 fun _ => ?_)
  refine seq (part30 fun ⟨_, _, _⟩ => ?_)
  dsimp only
  refine BIBase.Entails.trans rearr3 ?_
  refine seq (part31 ?_)
  refine seq (part32 ?_)
  refine seq (part33 ?_)
  refine seq (part34 fun _ => ?_)
  refine seq (part35 fun _ => ?_)
  refine seq (part36 fun _ => ?_)
  refine seq (part37 fun _ => ?_)
  refine seq (part38 fun _ => ?_)
  refine seq (part39 fun _ => ?_)
  refine seq (part40 fun _ => ?_)
  refine seq (part41 fun _ => ?_)
  refine seq (part42 fun _ => ?_)
  refine seq (part43 fun _ => ?_)
  refine seq (part44 fun _ => ?_)
  refine seq (part45 fun _ => ?_)
  refine seq (waitM 31 (h := ?_))
  refine BIBase.Entails.trans rearr4 ?_
  unfold Done at h ⊢
  refine assoc_l (seq (loadA (fin (assoc_r h))))

end Cert.KernelIdeal.Run

end
-- ==== Proof.KernelIdeal.Data.lean ====
/-
# The body

The pipeline's data of the one grid point and the body's obligation: from the staged operands to the staged result.
-/
module

public import proofs.«01_k».proof.Proof.KernelIdeal.Body

@[expose] public section

set_option maxRecDepth 4000

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The pipeline's proof data -/

/-- A device's ghost state, at some names; what it starts from beside its buffers; -/
def G' (c : Dev nD) : sProp 𝕄 := iprop(∃ K, recs m ρ K ∗ linear (F := F) c)
def start (c : Dev nD) : sProp 𝕄 := iprop(G' m ρ c ∗ creds (F := F) c ∗ levAts L lv)
/-- its scratch buffers at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))
def Φ₀ (c : Dev nD) : sProp 𝕄 := iprop(start m ρ c ∗ scr (F := F) c)
def Φ₁ (c : Dev nD) : sProp 𝕄 := iprop(scr (F := F) c ∗ zeros (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

abbrev t₀ : Fin cfg0.N := t0_0

def bodyPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ (F := F) c ∗ (dats m ρ 0 c).owesAt () t₀.succ ∗ stg c cc0_stg0_0 (xstg m ρ c) ∗ stg c cc0_stg1_0 (wstg m ρ c) ∗ stg c cc0_stg2_0 (outAt m ρ c))

/-- The end of the body: the postcondition from what the program has. -/
theorem body_end (c : Dev nD) :
    iprop((((c : Thread nD τ).loc cc0_stg2_0) ↦{fullShare} outAt m ρ c) ∗ Done m ρ c ∗ XW m ρ c) ⊢ bodyPost m ρ c := by
  unfold bodyPost Φ₁ scr Done XW SW Dat.owesAt Pipeline.owesWithin
  rw [show (dats m ρ 0 c).owed t₀.succ = 0 from rfl]
  iintro ⟨Ho, ⟨Ha, Hd, Hy, Hs, ⟨%W, HO⟩, Hz⟩, Hw, Hx⟩
  isplitl [Ha Hd Hy Hs Hz]
  · isplitr [Hz]
    · isplitl [Hy]; · iexists _; iexact Hy
      isplitl [Hd]; · iexists _; iexact Hd
      isplitl [Hs]; · iexists _; iexact Hs
      iexists _; iexact Ha
    iexact Hz
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

/-- The body from its buffers at given contents. -/
theorem body_run (K : Dev nD × Cell → ℕ) (c : Dev nD) (f g1 g2 g3 go) :
    iprop(XW m ρ c ∗ YW c 0 (yOf m ρ c) f ∗ (((c : Thread nD τ).loc cc0_scratch2) ↦{fullShare} g1) ∗ dPts c c g2 ∗ aPts c c g3 ∗ SigSt m ρ K c 1 ∗ Held (F := F) c
        ∗ (((c : Thread nD τ).loc cc0_stg2_0) ↦{fullShare} go))
      ⊢ bwp c (cc0_body xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7) (fun _ => bodyPost m ρ c) := by
  rw [cc0_body_eq_skeleton]; unfold cc0_body_skel
  refine seq (part46 ?_)
  unfold Done
  refine assoc_l (swap2 (assoc_l (seq (loadD ?_))))
  refine BIBase.Entails.trans (show _ ⊢ iprop((((c : Thread nD τ).loc cc0_stg2_0) ↦{fullShare} go) ∗ Done m ρ c ∗ XW m ρ c) from ?_) ?_
  · unfold Done
    iintro ⟨Hd, ⟨Hy, Hs, HO, Hz⟩, Ha, HX, Ho⟩
    isplitl [Ho]; · iexact Ho
    isplitr [HX]
    · isplitl [Ha]; · iexact Ha
      isplitl [Hd]; · iexact Hd
      isplitl [Hy]; · iexact Hy
      isplitl [Hs]; · iexact Hs
      isplitl [HO]; · iexact HO
      iexact Hz
    iexact HX
  refine seq (loadO fun _ => seq (storeO (fin ?_)))
  exact body_end m ρ c

set_option maxRecDepth 8000 in
theorem sound_body (c : Dev nD) : bodyPre m ρ c ⊢ bwp c (cc0_body xM (Memref.isWhole_whole _) wM (Memref.isWhole_whole _) oM (Memref.isWhole_whole _) yM (Memref.isWhole_whole _) dM (Memref.isWhole_whole _)
      sM (Memref.isWhole_whole _) aM (Memref.isWhole_whole _) cc0_scratch4 cc0_scratch5 cc0_scratch6 cc0_scratch7) (fun _ => bodyPost m ρ c) := by
  unfold bodyPre Φ₀ start G' scr Dat.owesAt Pipeline.owesWithin
  rw [show (dats m ρ 0 c).owed t₀.castSucc = O₀ c from rfl]
  iintro ⟨⟨⟨⟨%K, Hrec, Hlin⟩, Hcr, Hlev⟩, ⟨%f, Hy⟩, ⟨%g2, Hd⟩, ⟨%g1, Hs⟩, ⟨%g3, Ha⟩⟩, ⟨%W, %hW, HO⟩, ⟨%d0, %h0, %e0, Hx⟩, ⟨%d1, %h1, %e1, Hw⟩, ⟨%d2, %h2, %e2, Ho⟩⟩
  have hx : h0 = xstg m ρ c := by rw [e0]; unfold Dat.before; rw [if_pos (fetch0_0 t₀)]; rfl
  have hw : h1 = wstg m ρ c := by rw [e1]; unfold Dat.before; rw [if_pos (fetch0_1 t₀)]; rfl
  subst hx hw
  unfold bwp
  rw [← fupd_wp_eq]
  imod (open_entry K c g2 g3) $$ [Hrec HO Hlin Hcr Hlev Hd Ha] with ⟨Hd, Ha, HS, HH⟩
  · isplitl [Hrec]; · iexact Hrec
    isplitl [HO]; · iexists W; iexact HO
    isplitl [Hlin]; · iexact Hlin
    isplitl [Hcr]; · iexact Hcr
    isplitl [Hlev]; · iexact Hlev
    isplitl [Hd]; · iexact Hd
    iexact Ha
  imodintro
  iapply (body_run m ρ K c f g1 g2 g3 h2)
  unfold XW YW
  rw [blocksUpTo_zero]
  isplitl [Hx Hw]
  · isplitl [Hw]; · iexact Hw
    iexact Hx
  isplitl [Hy]; · iexact Hy
  isplitl [Hs]; · iexact Hs
  isplitl [Hd]; · iexact Hd
  isplitl [Ha]; · iexact Ha
  isplitl [HS]; · iexact HS
  isplitl [HH]; · iexact HH
  iexact Ho

set_option maxRecDepth 4000 in
/-- The library's body obligation on core `c`. -/
theorem body_obligation (c : Dev nD) : BodyObligation (dats (F := F) m ρ 0 c) (defs₀ (F := F)) 𝒱₀ () Set.univ := fun t => by
  rw [show t = t₀ from fin_N0 t]
  rw [bigSep_W, bigSep_W]
  simp only [owns_whole_eq]
  exact sound_body m ρ c

end Cert.KernelIdeal.Run

end
-- ==== Proof.KernelIdeal.Launch.lean ====
/-
# The run

The cells of all devices funded at launch, the credits each device starts from, and the run of `@main` on the
thirty-two devices.
-/
module

public import proofs.«01_k».proof.Proof.KernelIdeal.Data
public import Idealize.ShloMosaic.Lib.Pipeline.CollectiveSegs

@[expose] public section

set_option maxRecDepth 4000

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The kernel's own semaphores -/

abbrev osem : Fin 4 × Dev nD → SemLoc sig := fun x => csem (some x)

theorem osem_scoped : ∀ x, (osem x).isScoped .tc = true := by decide +kernel
theorem stage_sem : ∀ (w : Fin cfg0.W) (s), ((cfg0.spec w).sem s).val < 3 := by decide +kernel
theorem ownSemFacts : Pipeline.OwnSemFacts cfg0.spec osem where
  isScoped := osem_scoped
  inj := fun x y h => Option.some.inj (csem_injective h)
  disj := fun x w s h => by
    have h1 : dmaIx x.1 x.2 = (cfg0.spec w).sem s := SemLoc.dma.inj h
    have h2 := stage_sem w s
    rw [← h1] at h2
    have h3 : 3 + 32 * x.1.val + x.2.val < 3 := h2
    omega

theorem share_eq (c : Dev nD) (w : Fin cfg0.W) : (dats m ρ 0 c).share w = fullShare := by unfold Dat.share; split <;> rfl

theorem unscopedSems0_eq (c : Dev nD) : (unscopedSems0 c : sProp 𝕄) = semVal (bar c) 0 := by
  unfold unscopedSems0; rw [bigSep_eq_bigSepL_of_eq [SemLoc.reg barS] (by decide) (by decide)]; rfl
theorem zeros_eq (c : Dev nD) : zeros (F := F) c
    = iprop(unscopedSems0 c ∗ Pipeline.ownSems0 (Ix := Unit) (Name := ℕ) (U := UU) (Lvl := ℕ) (Val := Elt F) (τ := τ) osem c) := by
  rw [unscopedSems0_eq]; unfold zeros; rw [over_cells]; rfl

/-! ### The launch element -/

theorem cells_injective : Function.Injective (fun x : Dev nD × Cell => cell x.1 x.2) := fun x y h =>
  Prod.ext (cell_inj h).1 (cell_inj h).2
def ringCells : Finset (GSem nD τ sig) := Finset.univ.map ⟨fun x : Dev nD × Cell => cell x.1 x.2, cells_injective⟩

/-- The cell of the duty of kind `j` that device `c` pays at index `k`, -/
def tokCell (c k : Dev nD) (j : Fin 5) : Dev nD × Cell := match j with
  | 0 => (c + k, none)
  | 1 => (c, some (0, k))
  | 2 => (c + k, some (1, c))
  | 3 => (c, some (2, k))
  | 4 => (c + k, some (3, c))
/-- and the name it has there. -/
def tokName (c : Dev nD) (j : Fin 5) : Dev nD := match j with
  | 0 => c | 1 => 0 | 2 => 0 | 3 => 0 | 4 => 0
def tokOf (x : Dev nD × Dev nD × Fin 5) : GSem nD τ sig × ℕ × Dev nD :=
  (cell (tokCell x.1 x.2.1 x.2.2).1 (tokCell x.1 x.2.1 x.2.2).2, 0, tokName x.1 x.2.2)

theorem add_left_inj' {c k k' : Dev nD} (h : c + k = c + k') : k = k' := (rot c).injective h

theorem tokOf_injective : Function.Injective tokOf := by
  rintro ⟨c, k, j⟩ ⟨c', k', j'⟩ h
  have hc := cell_inj (congrArg Prod.fst h)
  have hn : tokName c j = tokName c' j' := congrArg (fun x => x.2.2) h
  obtain ⟨h1, h2⟩ := hc
  fin_cases j <;> fin_cases j' <;> simp [tokCell, tokName] at h1 h2 hn <;>
    simp_all <;> exact add_left_inj' h1
def ringToks : Finset (GSem nD τ sig × ℕ × Dev nD) := Finset.univ.map ⟨tokOf, tokOf_injective⟩

def u₀ : UU :=
  (initOf (Pipeline.cells cfgs cellOf_inj) (Pipeline.launchToks cfgs cellOf_inj), initOf ringCells ringToks)

theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The tokens minted for device `c`. -/
def minted (c : Dev nD) : sProp 𝕄 := bigSep Finset.univ fun kj : Dev nD × Fin 5 => dutyTok ER (tokOf (c, kj)).1 (tokOf (c, kj)).2.1 (tokOf (c, kj)).2.2

theorem minted_pay (c : Dev nD) : minted (F := F) c ⊢ payToks (F := F) c := by
  have h : ∀ k : Dev nD, (bigSep Finset.univ fun j : Fin 5 => (dutyTok ER (tokOf (c, k, j)).1 (tokOf (c, k, j)).2.1 (tokOf (c, k, j)).2.2 : sProp 𝕄))
      ⊢ iprop(dutyTok ER (bar (c + k)) 0 c ∗ toks (F := F) c k) := fun k => by
    rw [five]
    unfold toks
    show iprop(dutyTok ER (bar (c + k)) 0 c ∗ dutyTok ER (dsend c k) 0 0 ∗ dutyTok ER (drecv (c + k) c) 0 0 ∗ dutyTok ER (asend c k) 0 0 ∗ dutyTok ER (arecv (c + k) c) 0 0) ⊢ _
    iintro ⟨H0, H1, H2, H3, H4⟩
    isplitl [H0]; · iexact H0
    isplitl [H1 H2]
    · isplitl [H1]; · iexact H1
      iexact H2
    isplitl [H3]; · iexact H3
    iexact H4
  unfold minted payToks
  rw [bigSep_univ_prod, ← bigSep_sep']
  exact (bigSep_mono fun k _ => h k).trans (bigSep_subset (Finset.subset_univ _))

/-- What the launch element deals device `c`. -/
def G (c : Dev nD) : sProp 𝕄 :=
  iprop((bigSep Finset.univ fun i : Cell => roundState ER (Rd m ρ) (cell c i) 0)
    ∗ (bigSep Finset.univ fun i : Cell => atPos ER (cell c i) 0 ∅ 0) ∗ (bigSep Finset.univ fun i : Cell => reached ER (cell c i) 0) ∗ minted (F := F) c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun i : Cell => Φ (cell c i) := by
    unfold ringCells; rw [bigSep_map, bigSep_univ_prod]; rfl
  have hT : bigSep ringToks (fun x => (dutyTok ER x.1 x.2.1 x.2.2 : sProp 𝕄)) = bigSep Finset.univ fun c : Dev nD => minted c := by
    unfold ringToks; rw [bigSep_map, bigSep_univ_prod]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-- Each device's cells become invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : Cell => iprop(∃ κ : ℕ, cellInv ER (Rd m ρ) κ (cell c i)))
          ∗ (bigSep Finset.univ fun i : Cell => reached ER (cell c i) 0) ∗ linear (F := F) c) := by
  unfold G linear
  iintro ⟨Hos, Hus, Hst, Hat, Hr, Htok⟩
  ihave Hv := (Entails.of_eq (zeros_eq (F := F) c).symm) $$ [Hos Hus]
  · isplitl [Hus]; · iexact Hus
    iexact Hos
  imod (show iprop(zeros (F := F) c ∗ bigSep Finset.univ fun i : Cell => roundState ER (Rd m ρ) (cell c i) 0)
      ⊢ (|={Set.univ}=> bigSep Finset.univ fun i : Cell => iprop(∃ κ : ℕ, cellInv ER (Rd m ρ) κ (cell c i)) : sProp 𝕄) from by
        unfold zeros
        rw [← bigSep_sep']
        exact (bigSep_mono fun i _ => (Rounds.body_intro ER (Rd m ρ) (cell c i)).trans inv_alloc).trans (bigSep_fupd _ _)) $$ [Hv Hst] with Hinv
  · isplitl [Hv]; · iexact Hv
    iexact Hst
  imodintro
  isplitl [Hinv]; · iexact Hinv
  isplitl [Hr]; · iexact Hr
  isplitl [Hat]; · iexact Hat
  iapply (minted_pay c); iexact Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : Cell => iprop(∃ κ : ℕ, cellInv ER (Rd m ρ) κ (cell c i)))
          ∗ (bigSep Finset.univ fun i : Cell => reached ER (cell c i) 0) ∗ linear (F := F) c) : sProp 𝕄)
      ⊢ bigSep Finset.univ (G' m ρ) := by
  rw [bigSep_sep', bigSep_sep', ← bigSep_univ_prod (fun x : Dev nD × Cell => iprop(∃ κ : ℕ, cellInv ER (Rd m ρ) κ (cell x.1 x.2))),
    ← bigSep_univ_prod (fun x : Dev nD × Cell => (reached ER (cell x.1 x.2) 0 : sProp 𝕄))]
  iintro ⟨HI, HR, Hlin⟩
  ihave HK := (BI.bigSep_exists_pi Finset.univ (fun (x : Dev nD × Cell) (κ : ℕ) => (cellInv ER (Rd m ρ) κ (cell x.1 x.2) : sProp 𝕄))) $$ HI
  icases HK with ⟨%K, HI⟩
  iapply (with_persistent (R := recs m ρ K) fun c _ => show iprop(recs m ρ K ∗ linear (F := F) c) ⊢ G' m ρ c from by
    unfold G'; iintro H; iexists K; iexact H)
  isplitr [Hlin]
  · unfold recs; rw [bigSep_sep']
    isplitl [HI]; · iexact HI
    iexact HR
  iexact Hlin

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- What device `d` owes a cell of device `c`, of one family of tallies. -/
theorem owed_at (d c : Dev nD) (i j : Cell) (v : ℕ) :
    owedFrom (fun k => tallyAt (cell (d + k) i) () v) 1 (cell c j) () = if i = j ∧ d ≠ c then v else 0 := by
  unfold owedFrom
  rw [Finset.sum_apply, Finsupp.finset_sum_apply]
  have h : (∑ k ∈ fr 1, (tallyAt (cell (d + k) i) () v : CellTallies nD τ sig Unit) (cell c j) ())
      = ∑ p ∈ Finset.univ.erase d, (tallyAt (cell p i) () v : CellTallies nD τ sig Unit) (cell c j) () := by
    rw [erase_eq, Finset.sum_map]; rfl
  rw [h]
  by_cases hij : i = j ∧ d ≠ c
  · rw [if_pos hij, Finset.sum_eq_single_of_mem c (Finset.mem_erase.mpr ⟨hij.2.symm, Finset.mem_univ _⟩) fun p _ hp => by
      rw [tallyAt_apply, if_neg fun h' => hp (cell_inj h'.1).1.symm], tallyAt_apply, if_pos ⟨by rw [hij.1], rfl⟩]
  · rw [if_neg hij]
    refine Finset.sum_eq_zero fun p hp => ?_
    rw [tallyAt_apply, if_neg fun h' => hij ⟨(cell_inj h'.1).2.symm, fun e => Finset.ne_of_mem_erase hp ((cell_inj h'.1).1.symm.trans e.symm)⟩]

theorem O₀_at (d c : Dev nD) (j : Cell) : O₀ d (cell c j) ()
    = (if none = j ∧ d ≠ c then 1 else 0) + ((if some (1, d) = j ∧ d ≠ c then ND else 0) + (if some (3, d) = j ∧ d ≠ c then NA else 0)) := by
  unfold O₀ OS OX
  rw [Pi.add_apply, Finsupp.add_apply, Pi.add_apply, Finsupp.add_apply]
  exact congrArg₂ _ (owed_at d c none j 1) (congrArg₂ _ (owed_at d c (some (1, d)) j ND) (owed_at d c (some (3, d)) j NA))

theorem credit_eq (c : Dev nD) (j : Cell) (v : ℕ) (h : ∑ d : Dev nD, O₀ d (cell c j) () = v) :
    tallyOn (cell c j) (launchCredit (Pipeline.owing O₀) 0 (cell c j)) = (tallyAt (cell c j) () v : CellTallies nD τ sig Unit) := by
  unfold tallyAt; refine congrArg _ (Finsupp.ext fun u => ?_); cases u
  rw [Pipeline.launchCredit_owing, Finsupp.single_eq_same, h]

theorem credit_bar (c : Dev nD) : ∑ d : Dev nD, O₀ d (bar c) () = 31 := by
  rw [Finset.sum_congr rfl fun d _ => show O₀ d (bar c) () = if d ≠ c then 1 else 0 by rw [O₀_at]; simp]
  revert c; decide +kernel
theorem credit_recv (c p : Dev nD) (hp : p ≠ c) (b : Fin 4) (v : ℕ)
    (h : ∀ d, O₀ d (cell c (some (b, p))) () = if d = p ∧ d ≠ c then v else 0) : ∑ d : Dev nD, O₀ d (cell c (some (b, p))) () = v := by
  rw [Finset.sum_congr rfl fun d _ => h d, Finset.sum_eq_single_of_mem p (Finset.mem_univ _) fun d _ hd => if_neg fun h' => hd h'.1, if_pos ⟨rfl, hp⟩]
theorem credit_drecv (c p : Dev nD) (hp : p ≠ c) : ∑ d : Dev nD, O₀ d (drecv c p) () = ND :=
  credit_recv c p hp 1 ND fun d => by
    rw [O₀_at, if_neg (by simp), if_neg (c := some ((3 : Fin 4), d) = _ ∧ _) (by simp), Nat.zero_add, Nat.add_zero]
    simp
theorem credit_arecv (c p : Dev nD) (hp : p ≠ c) : ∑ d : Dev nD, O₀ d (arecv c p) () = NA :=
  credit_recv c p hp 3 NA fun d => by
    rw [O₀_at, if_neg (by simp), if_neg (c := some ((1 : Fin 4), d) = _ ∧ _) (by simp), Nat.zero_add, Nat.zero_add]
    simp

theorem creds_intro (c : Dev nD) : (Pipeline.launchCred O₀ c : sProp 𝕄) ⊢ creds (F := F) c := by
  have h0 : (Pipeline.launchCred O₀ c : sProp 𝕄)
      ⊢ bigSep Finset.univ fun j : Cell => cred (tallyOn (cell c j) (launchCredit (Pipeline.owing O₀) 0 (cell c j))) := by
    unfold Pipeline.launchCred
    refine BIBase.Entails.trans (bigSep_subset (Finset.subset_univ (Finset.univ.map ⟨csem, csem_injective⟩))) ?_
    rw [bigSep_map]
    exact BIBase.Entails.of_eq rfl
  have h1 (b : Fin 4) (v : ℕ) (h : ∀ p, p ≠ c → ∑ d : Dev nD, O₀ d (cell c (some (b, p))) () = v) :
      (bigSep Finset.univ fun p : Dev nD => (cred (tallyOn (cell c (some (b, p))) (launchCredit (Pipeline.owing O₀) 0 (cell c (some (b, p))))) : sProp 𝕄))
        ⊢ bigSep (Finset.univ.erase c) fun p => cred (tallyAt (cell c (some (b, p))) () v) :=
    (bigSep_subset (Finset.subset_univ (Finset.univ.erase c))).trans
      (bigSep_mono fun p hp => BIBase.Entails.of_eq (congrArg cred (credit_eq c (some (b, p)) v (h p (Finset.ne_of_mem_erase hp)))))
  refine BIBase.Entails.trans h0 ?_
  rw [cells_eq]
  unfold creds recvCr
  rw [bigSep_sep', credit_eq c none 31 (credit_bar c)]
  iintro ⟨H, -, H1, -, H3⟩
  isplitl [H]; · iexact H
  isplitl [H1]
  · iapply (h1 1 ND (credit_drecv c)); iexact H1
  iapply (h1 3 NA (credit_arecv c)); iexact H3

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem scr_eq (c : Dev nD) : (Pipeline.scopedRest cfg0.spec c : sProp 𝕄) = scr (F := F) c := scopedRest0_eq c

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scr_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scr_eq]
  unfold Φ₁
  rw [zeros_eq]
  iintro ⟨Hr, HzB, HzO⟩
  isplitl [HzB]; · iexact HzB
  isplitl [HzO]; · iexact HzO
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_sem w s) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution on the thirty-two devices terminates, and every
    final state has each device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two operand arrays hold what they held. -/
theorem finalA_x (c : Dev nD) : finalA m ρ c (0 : Fin 3) = m ((c : Thread nD τ).loc main_arg0) := (dats m ρ 0 c).arrAt_in (0 : Fin 3) rfl _
theorem finalA_w (c : Dev nD) : finalA m ρ c (1 : Fin 3) = m ((c : Thread nD τ).loc main_arg1) := (dats m ρ 0 c).arrAt_in (1 : Fin 3) rfl _

/-- Every run ends, leaves the operands as they were and every counter at zero. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0) :=
  (θ_run defs _ _).mono (fun _ h => ⟨fun c => ⟨(h.1 c (0 : Fin 3)).trans (finalA_x m ρ c), (h.1 c (1 : Fin 3)).trans (finalA_w m ρ c)⟩, h.2⟩) (run_main m ρ)

end Cert.KernelIdeal.Run

end
-- ==== Proof.Value.Reals.lean ====
/-
# Facts about extended reals and about the operations read over them

A sum of 4096 terms is the sum of its eight consecutive parts. The maximum a reduction takes is a supremum, which a
reshape does not change. Dividing by a scale, clipping and multiplying by the scale gives the same whether or not the
clip also bounds from below, when the value and the scale are not negative.
-/
module

public import Idealize.ShloMosaic.PureOps.Ideal.Laws
public import Idealize.ShloMosaic.PureOps.Reduce
public import Idealize.ShloMosaic.Lib.ValueIdx
public import Idealize.ShloMosaic.Lib.MatmulPlain
public import Idealize.ShloMosaic.Lib.Pipeline.Value
public import Mathlib.Data.EReal.Operations
public import Mathlib.Data.EReal.Inv
public import Mathlib.Order.CompleteLattice.Basic
public import Mathlib.Logic.Equiv.Fin.Basic
public import Mathlib.Algebra.BigOperators.Fin

@[expose] public section

noncomputable section

namespace Cert.Values

open Idealize.ShloMosaic Idealize.ShloMosaic.ValueIdx
open scoped BigOperators

/-! ## Sums -/

/-- A sum of `b * n` terms, part by part. -/
theorem sum_parts {b n : ℕ} (f : Fin (b * n) → EReal) :
    ∑ k, f k = ∑ p : Fin b, ∑ k : Fin n, f (finProdFinEquiv (p, k)) := by
  rw [← Equiv.sum_comp finProdFinEquiv f, Fintype.sum_prod_type]

/-- The part of a sum of 4096 terms that starts at `o`. -/
def part (f : Fin 4096 → EReal) (o : ℕ) (h : o + 512 ≤ 4096) : EReal := ∑ k : Fin 512, f ⟨o + k.val, by have := k.isLt; omega⟩

/-- A sum of 4096 terms is the sum of its eight parts, added from the left onto zero. -/
theorem sum_eight (f : Fin 4096 → EReal) :
    ∑ k, f k = 0 + part f 0 (by decide) + part f 512 (by decide) + part f 1024 (by decide) + part f 1536 (by decide)
      + part f 2048 (by decide) + part f 2560 (by decide) + part f 3072 (by decide) + part f 3584 (by decide) := by
  have hp (p : Fin 8) : ∑ k : Fin 512, f (finProdFinEquiv (p, k)) = part f (512 * p.val) (by have := p.isLt; omega) :=
    Finset.sum_congr rfl fun k _ => congrArg f (Fin.ext (by
      show k.val + 512 * p.val = 512 * p.val + k.val
      omega))
  rw [sum_parts (b := 8) (n := 512) f, Finset.sum_congr rfl fun p _ => hp p, Fin.sum_univ_eight, zero_add]
  rfl

/-! ## Maxima -/

/-- The word a maximum starts from is minus infinity. -/
theorem ofBits_bot : Ideal.ofBits .f32 0xFF800000#32 = ⊥ := by simp [Ideal.ofBits, Ideal.ieee]

/-- A maximum over every index, taken from minus infinity, is the supremum. -/
theorem reduce_max {s t : Shape} {axes : List (Fin s.rank)} (src : FVec Ideal s .f32) (h : s.Reduces axes t) (ht : ∀ b, t.size b = 1)
    (hφ : FKind.Formats .f32) (hacc : (0xFF800000#32 : BitVec 32) = FKind.maximumf.neutral .f32 hφ) (j : t.Idx) :
    multiReduction .maximumf axes t src 0xFF800000#32 h hφ hacc j = (⨆ i : s.Idx, src i : EReal) := by
  rw [multiReduction_maximumf_eq_fold, Finset.filter_true_of_mem fun i _ => funext fun b => Fin.ext (by
    have := (h.drop i b).isLt; have := (j b).isLt; have := ht b; omega)]
  show Finset.fold max (Ideal.ofBits .f32 0xFF800000#32) src Finset.univ = _
  rw [ofBits_bot]
  exact Finset.sup_univ_eq_iSup (fun i => (src i : EReal))

/-- A reshape takes the same values. -/
theorem iSup_shapeCast {s t : Shape} (x : s.Idx → EReal) (h : s.ShapeCasts t) :
    (⨆ i : t.Idx, shapeCast t x h i) = ⨆ i : s.Idx, x i :=
  Equiv.iSup_comp (g := x) (Shape.reshapeEquiv _)

/-- The whole of a value's maximum as a kernel takes it: reshape under a unit axis, reduce every other axis, and
    read the one element left. -/
theorem max_all {s s' t u : Shape} {axes : List (Fin s'.rank)} (x : FVec Ideal s .f32) (hs : s.ShapeCasts s') (h : s'.Reduces axes t)
    (ht : ∀ b, t.size b = 1) (hφ : FKind.Formats .f32) (hacc : (0xFF800000#32 : BitVec 32) = FKind.maximumf.neutral .f32 hφ)
    (hu : t.ShapeCasts u) (pos : Fin u.rank → ℕ) (hp : ∀ a, pos a < u.size a) :
    extractAt pos (shapeCast u (multiReduction .maximumf axes t (shapeCast s' x hs) 0xFF800000#32 h hφ hacc) hu) hp
      = (⨆ i : s.Idx, x i : EReal) :=
  (reduce_max (shapeCast s' x hs) h ht hφ hacc _).trans (iSup_shapeCast x hs)

/-! ## The scale -/

/-- The two clips agree. -/
theorem clip_scale (y s a b : EReal) (hy : 0 ≤ y) (hs : 0 ≤ s) (hb : b ≤ 0) :
    min (Ideal.div y s) a * s = min a (max b (Ideal.div y s)) * s := by
  by_cases h : s = 0
  · rw [h, mul_zero, mul_zero]
  · have hd : b ≤ Ideal.div y s := by
      unfold Ideal.div
      rw [if_neg h]
      exact hb.trans (mul_nonneg hy (EReal.inv_nonneg_of_nonneg hs))
    rw [max_eq_right hd, min_comm]

/-- A nonnegative value divided by a positive one is not negative. -/
theorem div_nonneg' (y s : EReal) (hy : 0 ≤ y) (hs : 0 < s) : 0 ≤ Ideal.div y s := by
  unfold Ideal.div
  rw [if_neg hs.ne']
  exact mul_nonneg hy (EReal.inv_nonneg_of_nonneg hs.le)

/-- The two bounds of the clip. -/
theorem ofBits_448 : Ideal.ofBits .f32 0x43E00000#32 = ((448 : ℝ) : EReal) := by
  simp [Ideal.ofBits, Ideal.ieee, -EReal.coe_mul]; norm_num

/-- The lower one. -/
theorem ofBits_neg_448 : Ideal.ofBits .f32 0xC3E00000#32 = ((-448 : ℝ) : EReal) := by
  simp [Ideal.ofBits, Ideal.ieee, -EReal.coe_mul]; norm_num

/-- What one element becomes: divided by the scale `t`, clipped, multiplied by `t`. -/
def snap (t y : EReal) : EReal := min (Ideal.div y t) (Ideal.ofBits .f32 0x43E00000#32) * t

/-- The scale of values whose maximum is `g`. -/
def scale (g : EReal) : EReal := Ideal.div g (Ideal.ofBits .f32 0x43E00000#32)

/-- It is not negative if the maximum is not. -/
theorem scale_nonneg (g : EReal) (hg : 0 ≤ g) : 0 ≤ scale g :=
  div_nonneg' g _ hg (by rw [ofBits_448]; exact EReal.coe_pos.2 (by norm_num))

/-- The same element under a clip from both sides. -/
theorem snap_eq (t y : EReal) (hy : 0 ≤ y) (ht : 0 ≤ t) :
    min (Ideal.ofBits .f32 0x43E00000#32) (max (Ideal.ofBits .f32 0xC3E00000#32) (Ideal.div y t)) * t = snap t y :=
  (clip_scale y t _ _ hy ht (by rw [ofBits_neg_448]; exact EReal.coe_nonpos.2 (by norm_num))).symm

end Cert.Values

end
-- ==== Proof.Value.Rows.lean ====
/-
# The kernel's values over the reals

A device's rows of `y` are its rows of `x` times `w`, clamped below at zero: the eight partial products add up to the
whole one. The scale every device forms is that of the maximum over all devices' rows.
-/
module

public import proofs.«01_k».proof.Proof.KernelIdeal.Protocol
public import proofs.«01_k».proof.Proof.Value.Reals

@[expose] public section

set_option maxRecDepth 4000

noncomputable section

namespace Cert.Values

open Cert.KernelIdeal Cert.KernelIdeal.Gen Cert.KernelIdeal.Run
open Idealize.ShloMosaic Idealize.ShloMosaic.ValueIdx
open scoped BigOperators

/-- A row of `x` times a column of `w`, clamped below at zero. -/
def dotRelu {a b c : ℕ} (x : (⟨2, ![a, b]⟩ : Shape).Idx → EReal) (w : (⟨2, ![b, c]⟩ : Shape).Idx → EReal)
    (j : (⟨2, ![a, c]⟩ : Shape).Idx) : EReal := max (∑ k : Fin b, x (ix2 (j 0) k) * w (ix2 k (j 1))) 0

/-- It is not negative. -/
theorem dotRelu_nonneg {a b c : ℕ} (x : (⟨2, ![a, b]⟩ : Shape).Idx → EReal) (w : (⟨2, ![b, c]⟩ : Shape).Idx → EReal)
    (j : (⟨2, ![a, c]⟩ : Shape).Idx) : 0 ≤ dotRelu x w j := le_max_right _ _

/-- Loading the whole of `x` reads it. -/
theorem xAll_apply (x : Vec Ideal S128x4096 .bf16) (j : S128x4096.Idx) : xAll x j = x j :=
  congrArg x (funext fun a => Fin.ext (by
    match a with
    | ⟨0, _⟩ => show 0 + 1 * (j 0).val = (j 0).val; omega
    | ⟨1, _⟩ => show 0 + 1 * (j 1).val = (j 1).val; omega))

/-- Loading 512 rows of `w` from row `o` reads those rows. -/
theorem wRows_apply (o : ℕ) (h : ∀ a, (![o, 0] : Fin 2 → ℕ) a + S512x2048.size a ≤ S4096x2048.size a) (ho : o + 512 ≤ 4096)
    (w : Vec Ideal S4096x2048 .bf16) (k : Fin 512) (n : Fin 2048) :
    wRows ![o, 0] h w (ix2 k n) = w (ix2 ⟨o + k.val, by have := k.isLt; omega⟩ n) :=
  congrArg w (funext fun a => Fin.ext (by
    match a with
    | ⟨0, _⟩ => show o + 1 * k.val = o + k.val; omega
    | ⟨1, _⟩ => show 0 + 1 * n.val = n.val; omega))

/-- One partial product: 512 columns of `x` from column `o` times 512 rows of `w` from row `o`. -/
theorem product (o : ℕ) (h : ∀ a, (![o, 0] : Fin 2 → ℕ) a + S512x2048.size a ≤ S4096x2048.size a) (ho : o + 512 ≤ 4096)
    (hs : S128x4096.Slices ![0, o] S128x512) (x : Vec Ideal S128x4096 .bf16) (w : Vec Ideal S4096x2048 .bf16)
    (i : Fin 128) (n : Fin 2048) :
    matmul (F := Ideal) (φ₁ := .bf16) (φ₂ := .bf16) dot_S128x512_S512x2048_S128x2048_1_0_0_1_n_n none (extractStridedSlice S128x512 ![0, o] (k0_pay2 (xAll x)) hs)
        (shapeCast (α := Ideal .bf16) S512x2048 (wRows ![o, 0] h w) shapeCasts_S512x2048_S512x2048) (constant S128x2048 .f32 0x00000000#32) (ix2 i n)
      = part (fun k => (x (ix2 i k) : EReal) * (w (ix2 k n) : EReal)) o ho := by
  refine (Ideal.matmul_plain_apply (M := 128) (K := 512) (N := 2048) none _ _ _ i n).trans ?_
  show Ideal.ofBits .f32 0x00000000#32 + _ = _
  rw [Ideal.ofBits_zero_f32, zero_add]
  refine Finset.sum_congr rfl fun k _ => congrArg₂ (fun p q : EReal => p * q) ?_ ?_
  · refine (extractStridedSlice_apply ![0, o] (k0_pay2 (xAll x)) hs (ix2 i k) (ix2 i ⟨o + k.val, by have := k.isLt; omega⟩) fun a => ?_).trans ?_
    · match a with
      | ⟨0, _⟩ => show i.val = 0 + i.val; omega
      | ⟨1, _⟩ => rfl
    · exact (congrFun (shapeCast_self (xAll x) shapeCasts_S128x4096_S128x4096) _).trans (xAll_apply x _)
  · exact (congrFun (shapeCast_self (wRows ![o, 0] h w) shapeCasts_S512x2048_S512x2048) _).trans (wRows_apply o h ho w k n)

/-- A device's rows of `y`. -/
theorem rowsY_apply (x : Vec Ideal S128x4096 .bf16) (w : Vec Ideal S4096x2048 .bf16) (j : S128x2048.Idx) :
    rowsY x w j = dotRelu x w j := by
  rw [eq_ix2 j]
  have e (o : ℕ) (h : ∀ a, (![o, 0] : Fin 2 → ℕ) a + S512x2048.size a ≤ S4096x2048.size a) (ho : o + 512 ≤ 4096)
      (hs : S128x4096.Slices ![0, o] S128x512) := product o h ho hs x w (j 0) (j 1)
  have z : (Ideal.ofBits .f32 0x00000000#32 : EReal) = 0 := Ideal.ofBits_zero_f32
  unfold dotRelu
  rw [sum_eight]
  refine congrArg₂ max ?_ z
  have add {a b a' b' : EReal} (h : a = a') (h' : b = b') : a + b = a' + b' := by rw [h, h']
  exact add (add (add (add (add (add (add (add z (e 0 _ _ _)) (e 512 _ _ _)) (e 1024 _ _ _)) (e 1536 _ _ _)) (e 2048 _ _ _))
    (e 2560 _ _ _)) (e 3072 _ _ _)) (e 3584 _ _ _)

/-- The maximum of a device's rows. -/
theorem maxY_eq (x : Vec Ideal S128x4096 .bf16) (w : Vec Ideal S4096x2048 .bf16) :
    maxY x w = (⨆ j : S128x2048.Idx, dotRelu x w j : EReal) :=
  (max_all (rowsY x w) shapeCasts_S128x2048_S1x128x2048 reduces_S1x128x2048_S1 (fun b => by fin_cases b; rfl) (.inl rfl) rfl
    shapeCasts_S1_S1x1x1 ![0, 0, 0] inpos_S1x1x1_p0_0_0).trans (iSup_congr fun j => rowsY_apply x w j)

/-- The scale formed from received maxima. -/
theorem scale_eq (v : Vec Ideal S32x8x128 .f32) : k0_pay44 v = scale (⨆ i : S32x8x128.Idx, v i : EReal) :=
  congrArg scale (max_all v shapeCasts_S32x8x128_S1x32x8x128 reduces_S1x32x8x128_S1 (fun b => by fin_cases b; rfl) (.inl rfl) rfl
    shapeCasts_S1_S1x1x1x1 ![0, 0, 0, 0] inpos_S1x1x1x1_p0_0_0_0)

/-- Where row `r`, column `n` of what is stored comes from: block `r / 128`, its row `r % 128`, column `n`. -/
def src (j : S4096x64.Idx) : S32x128x64.Idx :=
  ix3 (n0 := 32) (n1 := 128) (n2 := 64) ⟨(j 0).val / 128, by have : (j 0).val < 4096 := idx2_lt0 j; omega⟩
    ⟨(j 0).val % 128, Nat.mod_lt _ (by decide)⟩ (j 1)

/-- What is stored: the received value divided by the scale, clipped, multiplied by the scale. -/
theorem stored_apply (t : Ideal .f32) (v : Vec Ideal S32x128x64 .bf16) (j : S4096x64.Idx) :
    k0_pay1 t v j = snap t (v (src j)) := by
  show shapeCast S4096x64 (fun i : S32x128x64.Idx => snap t (v i)) shapeCasts_S32x128x64_S4096x64 j = _
  refine (shapeCast_apply _ shapeCasts_S32x128x64_S4096x64 j (src j) ?_).trans rfl
  rw [Shape.rowMajor_val_three, Shape.rowMajor_val_two]
  show ((j 0).val / 128 * 128 + (j 0).val % 128) * 64 + (j 1).val = (j 0).val * 64 + (j 1).val
  omega

end Cert.Values

end
-- ==== Proof.Value.Whole.lean ====
/-
# Both programs' results

Over the reals both programs compute `y`, the product clamped below at zero, and from its maximum a scale; each element of
the result is `snap` of that scale at the element of `y`. Device `c` of the kernel computes the result's column block `c`.
-/
module

public import proofs.«01_k».proof.Proof.Value.Rows
public import proofs.«01_k».proof.Proof.KernelIdeal.Launch
public import proofs.«01_k».proof.Proof.Gen.ReferenceIdeal.Value
public import Idealize.ShloMosaic.Lib.Layout

@[expose] public section

set_option maxRecDepth 4000

noncomputable section

namespace Cert.Values

open Idealize.ShloMosaic Idealize.ShloMosaic.ValueIdx Idealize.ShloMosaic.TcCoe
open scoped BigOperators

/-- The common result, from the whole of `x` and of `w`. -/
def result (X : (⟨2, ![4096, 4096]⟩ : Shape).Idx → EReal) (W : (⟨2, ![4096, 2048]⟩ : Shape).Idx → EReal)
    (j : (⟨2, ![4096, 2048]⟩ : Shape).Idx) : EReal :=
  snap (scale (⨆ i : (⟨2, ![4096, 2048]⟩ : Shape).Idx, dotRelu X W i)) (dotRelu X W j)

section Reference
open Cert.ReferenceIdeal Cert.ReferenceIdeal.Gen

/-- The reference's product, clamped. -/
theorem ref_y (X : Vec Ideal S4096x4096 .bf16) (W : Vec Ideal S4096x2048 .bf16) (j : S4096x2048.Idx) :
    maximumf (matmul (F := Ideal) (φ₁ := .bf16) (φ₂ := .bf16) dot_S4096x4096_S4096x2048_S4096x2048_1_0_0_1_n_n none X W (constant S4096x2048 .f32 0x00000000#32))
      (broadcast S4096x2048 (Scalar.ofBits .f32 0x00000000#32)) j = dotRelu X W j := by
  have z : (Ideal.ofBits .f32 0x00000000#32 : EReal) = 0 := Ideal.ofBits_zero_f32
  refine congrArg₂ (max : EReal → EReal → EReal) ?_ z
  rw [eq_ix2 j]
  refine (Ideal.matmul_plain_apply (M := 4096) (K := 4096) (N := 2048) none X W _ (j 0) (j 1)).trans ?_
  show Ideal.ofBits .f32 0x00000000#32 + _ = _
  rw [z, zero_add]

/-- The maximum of absolute values of values that are not negative. -/
theorem ref_max (y : FVec Ideal S4096x2048 .f32) (hy : ∀ j, (0 : EReal) ≤ y j) :
    extractAt ![0, 0, 0] (shapeCast S1x1x1 (multiReduction .maximumf [1, 2] S1 (shapeCast S1x4096x2048 (absf y) shapeCasts_S4096x2048_S1x4096x2048)
        0xFF800000#32 reduces_S1x4096x2048_S1 (.inl rfl) rfl) shapeCasts_S1_S1x1x1) inpos_S1x1x1_p0_0_0
      = (⨆ j : S4096x2048.Idx, y j : EReal) :=
  (max_all (absf y) shapeCasts_S4096x2048_S1x4096x2048 reduces_S1x4096x2048_S1 (fun b => by fin_cases b; rfl) (.inl rfl) rfl
    shapeCasts_S1_S1x1x1 ![0, 0, 0] inpos_S1x1x1_p0_0_0).trans
    (iSup_congr fun j => max_eq_left ((show -(y j : EReal) ≤ 0 by simpa using EReal.neg_le_neg_iff.2 (hy j)).trans (hy j)))

/-- The reference's result. -/
theorem ref_apply (X : Vec Ideal S4096x4096 .bf16) (W : Vec Ideal S4096x2048 .bf16) (j : S4096x2048.Idx) :
    k0_pay1 X W j = result X W j := by
  have hy := funext (ref_y X W)
  unfold k0_pay1
  simp only []
  rw [hy]
  rw [ref_max (dotRelu X W) (dotRelu_nonneg X W)]
  exact snap_eq _ _ (dotRelu_nonneg X W j) (scale_nonneg _ ((dotRelu_nonneg X W j).trans (le_iSup (dotRelu X W) j)))

end Reference

section Kernel
open Cert.KernelIdeal Cert.KernelIdeal.Gen Cert.KernelIdeal.Run

/-- Where row `i` of block `c` lies in the whole: row `128 c + i`. -/
def rowAt (c : Fin 32) (j : (⟨2, ![128, 2048]⟩ : Shape).Idx) : (⟨2, ![4096, 2048]⟩ : Shape).Idx :=
  ix2 (n0 := 4096) (n1 := 2048) ⟨c.val * 128 + (j 0).val, by have : (j 0).val < 128 := idx2_lt0 j; have := c.isLt; omega⟩ (j 1)

/-- Every index of the whole lies in some block. -/
theorem rowAt_div (j : (⟨2, ![4096, 2048]⟩ : Shape).Idx) : ∃ c i, rowAt c i = j := by
  have h0 : (j 0).val < 4096 := idx2_lt0 j
  refine ⟨⟨(j 0).val / 128, by omega⟩, ix2 (n0 := 128) (n1 := 2048) ⟨(j 0).val % 128, Nat.mod_lt _ (by decide)⟩ (j 1), funext fun a => Fin.ext ?_⟩
  match a with
  | ⟨0, _⟩ => show (j 0).val / 128 * 128 + (j 0).val % 128 = (j 0).val; omega
  | ⟨1, _⟩ => rfl

section Maxima
variable (X : (⟨2, ![4096, 4096]⟩ : Shape).Idx → EReal) (W : (⟨2, ![4096, 2048]⟩ : Shape).Idx → EReal)

/-- Block `c` of `x`. -/
abbrev rowsOf (c : Fin 32) : (⟨2, ![128, 4096]⟩ : Shape).Idx → EReal := Layout.block ⟨2, ![128, 4096]⟩ ⟨2, ![4096, 4096]⟩ 0 32 c X

/-- A block's rows of `y` are rows of `y`. -/
theorem block_rows (c : Fin 32) (j : (⟨2, ![128, 2048]⟩ : Shape).Idx) : dotRelu (rowsOf X c) W j = dotRelu X W (rowAt c j) := by
  refine congrArg (fun p : EReal => max p 0) (Finset.sum_congr rfl fun k _ => congrArg (fun p : EReal => p * W (ix2 k (j 1))) ?_)
  exact congrArg X (funext fun a => Fin.ext (by match a with | ⟨0, _⟩ => rfl | ⟨1, _⟩ => rfl))

/-- The maximum over the devices of the maxima of their rows is the maximum of all rows. -/
theorem max_blocks : (⨆ i : S32x8x128.Idx, ⨆ j : (⟨2, ![128, 2048]⟩ : Shape).Idx, dotRelu (rowsOf X (devA i)) W j)
    = ⨆ j : (⟨2, ![4096, 2048]⟩ : Shape).Idx, dotRelu X W j := by
  apply le_antisymm
  · refine iSup_le fun i => iSup_le fun j => ?_
    rw [block_rows]
    exact le_iSup (dotRelu X W) _
  · refine iSup_le fun j => ?_
    obtain ⟨c, i, rfl⟩ := rowAt_div j
    rw [← block_rows]
    let z : S32x8x128.Idx := ix3 (n0 := 32) (n1 := 8) (n2 := 128) c ⟨0, by decide⟩ ⟨0, by decide⟩
    exact le_iSup_of_le z (le_iSup (dotRelu (rowsOf X c) W) i)

end Maxima

/-- Where column `n` of column block `c` lies in a device's rows: column `64 c + n`. -/
def colAt (c : Dev nD) (i : S32x128x64.Idx) : S128x2048.Idx :=
  ix2 (n0 := 128) (n1 := 2048) (i 1) ⟨64 * c.val + (i 2).val, by have : (i 2).val < 64 := (i 2).isLt; have : c.val < 32 := c.isLt; omega⟩

/-- A device's column block `c` holds those columns of its rows. -/
theorem colY_apply (c : Dev nD) (y : FVec Ideal S128x2048 .f32) (i : S32x128x64.Idx) : colY c y (inD i) = y (colAt c i) := by
  refine (shapeCast_apply _ shapeCasts_S128x64_S1x128x64 (inD i) (ix2 (n0 := 128) (n1 := 64) (i 1) (i 2)) ?_).trans ?_
  · rw [Shape.rowMajor_val_three, Shape.rowMajor_val_two]
    show (i 1).val * 64 + (i 2).val = (0 * 128 + (i 1).val) * 64 + (i 2).val
    omega
  · refine extractStridedSlice_apply ![0, 64 * c.val] y (slices_col c) _ (colAt c i) fun a => ?_
    match a with
    | ⟨0, _⟩ => show (i 1).val = 0 + (i 1).val; omega
    | ⟨1, _⟩ => rfl

variable (m : (ℓ : Loc nD τ sig) → Buf (Elt Ideal) ℓ) (ρ : Dev nD → PrngReg)

/-- What a device loads of `x` is its part of `x`, -/
theorem xstg_eq (c : Dev nD) : xstg m ρ c = m ((c : Thread nD τ).loc main_arg0) := by
  funext j
  refine congrArg (m ((c : Thread nD τ).loc main_arg0)) (funext fun a => Fin.ext ?_)
  match a with
  | ⟨0, _⟩ => show 0 * 128 + 1 * (j 0).val = (j 0).val; omega
  | ⟨1, _⟩ => show 0 * 4096 + 1 * (j 1).val = (j 1).val; omega

/-- and of `w`, all of it. -/
theorem wstg_eq (c : Dev nD) : wstg m ρ c = m ((c : Thread nD τ).loc main_arg1) := by
  funext j
  refine congrArg (m ((c : Thread nD τ).loc main_arg1)) (funext fun a => Fin.ext ?_)
  match a with
  | ⟨0, _⟩ => show 0 * 4096 + 1 * (j 0).val = (j 0).val; omega
  | ⟨1, _⟩ => show 0 * 2048 + 1 * (j 1).val = (j 1).val; omega

/-- The result's one block is the whole of it. -/
theorem out_emb (t : Fin cfg0.N) (j : S4096x64.Idx) : ((cfg0.win 2).blk t).view.emb j = j := by
  have ht : t = (0 : Fin 1) := Subsingleton.elim (α := Fin 1) _ _
  subst ht
  funext a; apply Fin.ext
  match a with
  | ⟨0, _⟩ => show 0 * 4096 + 1 * (j 0).val = (j 0).val; omega
  | ⟨1, _⟩ => show 0 * 64 + 1 * (j 1).val = (j 1).val; omega

/-- So what a device's result array ends holding is what its body left. -/
theorem final_out (c : Dev nD) : finalA m ρ c (2 : Fin 3) = outAt m ρ c := by
  refine (dats m ρ 0 c).arrAt_eq_of_cover 2 (outAt m ρ c) (fun t _ => funext fun j => ?_) (fun i => ?_)
  · show outAt m ρ c j = outAt m ρ c (((cfg0.win 2).blk t).view.emb j)
    rw [out_emb]
  · refine ⟨(⟨0, by decide⟩ : Fin cfg0.N), flush0_2 _, ?_⟩
    have h := ((cfg0.win 2).blk (⟨0, by decide⟩ : Fin cfg0.N)).view.emb_mem_set i
    rwa [out_emb] at h

section Result
variable (X : (⟨2, ![4096, 4096]⟩ : Shape).Idx → EReal) (W : (⟨2, ![4096, 2048]⟩ : Shape).Idx → EReal)
variable (hx : ∀ c : Dev nD, m ((c : Thread nD τ).loc main_arg0) = rowsOf X c)
variable (hw : ∀ c : Dev nD, m ((c : Thread nD τ).loc main_arg1) = W)
include hx hw

/-- A device's rows of `y` are rows of the whole `y`. -/
theorem y_apply (p : Dev nD) (j : S128x2048.Idx) : yOf m ρ p j = dotRelu X W (rowAt p j) := by
  unfold yOf
  rw [xstg_eq, wstg_eq, hx, hw, rowsY_apply]
  exact block_rows X W p j

/-- The maximum a device sends is that of its rows. -/
theorem m_eq (p : Dev nD) : mOf m ρ p = (⨆ j : S128x2048.Idx, dotRelu (rowsOf X p) W j : EReal) := by
  unfold mOf
  rw [xstg_eq, wstg_eq, hx, hw, maxY_eq]

/-- Every device forms the same scale. -/
theorem s_eq (c : Dev nD) : k0_pay44 (AR m ρ c) = scale (⨆ j : (⟨2, ![4096, 2048]⟩ : Shape).Idx, dotRelu X W j) :=
  (scale_eq (AR m ρ c)).trans (congrArg scale
    ((iSup_congr fun i : S32x8x128.Idx => m_eq m ρ X W hx hw (devA i)).trans (max_blocks X W)))

/-- A device's result from the whole arrays: its column block. -/
theorem out_eq (c : Dev nD) : outAt m ρ c = Layout.block ⟨2, ![4096, 64]⟩ ⟨2, ![4096, 2048]⟩ 1 32 c (result X W) := by
  funext j
  have e : DR m ρ c (src j) = dotRelu X W (rowAt (devD (src j)) (colAt c (src j))) :=
    (colY_apply c (yOf m ρ (devD (src j))) (src j)).trans (y_apply m ρ X W hx hw _ _)
  unfold outAt
  rw [s_eq m ρ X W hx hw, stored_apply, e]
  refine congrArg (fun i => snap (scale (⨆ j : (⟨2, ![4096, 2048]⟩ : Shape).Idx, dotRelu X W j)) (dotRelu X W i)) (funext fun a => Fin.ext ?_)
  match a with
  | ⟨0, _⟩ => show (j 0).val / 128 * 128 + (j 0).val % 128 = (j 0).val; omega
  | ⟨1, _⟩ => show 64 * c.val + (j 1).val = c.val * 64 + (j 1).val; omega

end Result

end Kernel

end Cert.Values

end
-- ==== Proof.Value.Claim.lean ====
/-
# The two runs side by side

Each program's run ends with its result read as `result` of the whole arrays; the kernel's devices hold its column blocks.
-/
module

public import proofs.«01_k».proof.Defs
public import proofs.«01_k».proof.Proof.Value.Whole

@[expose] public section

set_option maxRecDepth 4000

noncomputable section

namespace Cert.Values

open Idealize.ShloMosaic Idealize.SL.Sem

/-- The kernel and the reference compute the same array over the reals. -/
theorem same_result : Cert.algebraic_KernelIdeal_ReferenceIdeal := by
  intro m g m' g' _ h
  let X : (⟨2, ![4096, 4096]⟩ : Shape).Idx → EReal :=
    m' (((0 : Dev Cert.ReferenceIdeal.nD).tc : Thread Cert.ReferenceIdeal.nD Cert.ReferenceIdeal.τ).loc Cert.ReferenceIdeal.main_arg0)
  let W : (⟨2, ![4096, 2048]⟩ : Shape).Idx → EReal :=
    m' (((0 : Dev Cert.ReferenceIdeal.nD).tc : Thread Cert.ReferenceIdeal.nD Cert.ReferenceIdeal.τ).loc Cert.ReferenceIdeal.main_arg1)
  refine ⟨result X W, ?_, ?_⟩
  · refine (θ_run _ _ _).mono (fun r hr c => ⟨?_, ?_, ?_⟩) (Cert.KernelIdeal.Run.run_main m g)
    · exact (hr.1 c (2 : Fin 3)).trans ((final_out m g c).trans (out_eq m g X W (fun c => (h c).1) (fun c => (h c).2) c))
    · exact (hr.1 c (0 : Fin 3)).trans (Cert.KernelIdeal.Run.finalA_x m g c)
    · exact (hr.1 c (1 : Fin 3)).trans (Cert.KernelIdeal.Run.finalA_w m g c)
  · refine (θ_run _ _ _).mono (fun r hr => ⟨?_, (hr 0).2.1, (hr 0).2.2⟩) (Cert.ReferenceIdeal.Value.run m' g')
    exact (hr 0).1.trans (funext fun j => ref_apply X W j)

end Cert.Values

end
-- ==== Proof.lean ====
/-
# The claims

`Kernel` and `KernelIdeal` run by the same argument, written once for any float values; the reference by its generated run.
That the two compute the same array over the reals is `Value`'s.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Launch
public import proofs.«01_k».proof.Proof.KernelIdeal.Launch
public import proofs.«01_k».proof.Proof.Value.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Run.frame m g, fun m g _ => Cert.KernelIdeal.Run.frame m g, fun m g _ => Cert.ReferenceIdeal.Gen.frame m g, trivial,
  Cert.Values.same_result⟩

end Cert.Proof

end
